-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x5120 : Shape := ⟨3, ![2, 3072, 5120]⟩
abbrev S2x3072x40 : Shape := ⟨3, ![2, 3072, 40]⟩
abbrev S5120x2560 : Shape := ⟨2, ![5120, 2560]⟩
abbrev S40x20 : Shape := ⟨2, ![40, 20]⟩
abbrev S6144x5120 : Shape := ⟨2, ![6144, 5120]⟩
abbrev S6144x40 : Shape := ⟨2, ![6144, 40]⟩
abbrev S6144x2560 : Shape := ⟨2, ![6144, 2560]⟩
abbrev S6144x20 : Shape := ⟨2, ![6144, 20]⟩
abbrev S1024x5120 : Shape := ⟨2, ![1024, 5120]⟩
abbrev S1024x40 : Shape := ⟨2, ![1024, 40]⟩
abbrev S5120x256 : Shape := ⟨2, ![5120, 256]⟩
abbrev S1024x256 : Shape := ⟨2, ![1024, 256]⟩
abbrev S1024x20 : Shape := ⟨2, ![1024, 20]⟩
abbrev S1024x128 : Shape := ⟨2, ![1024, 128]⟩
abbrev S1024x1 : Shape := ⟨2, ![1024, 1]⟩
abbrev S1x1 : Shape := ⟨2, ![1, 1]⟩
abbrev S1x128 : Shape := ⟨2, ![1, 128]⟩
abbrev S128x128 : Shape := ⟨2, ![128, 128]⟩
abbrev S1024 : Shape := ⟨1, ![1024]⟩

abbrev nBuf : Space → Nat
  | .hbm => 10
  | .vmem => 15
  | .smem => 2
  | _ => 0

abbrev bufTy : (tb : Table) → Fin (tcTables nBuf tb) → BufTy
  | .hbm, ⟨0, _⟩ => ⟨S2x3072x5120, .fp8e4m3⟩
  | .hbm, ⟨1, _⟩ => ⟨S2x3072x40, .f32⟩
  | .hbm, ⟨2, _⟩ => ⟨S5120x2560, .fp8e4m3⟩
  | .hbm, ⟨3, _⟩ => ⟨S40x20, .f32⟩
  | .hbm, ⟨4, _⟩ => ⟨S5120x2560, .fp8e4m3⟩
  | .hbm, ⟨5, _⟩ => ⟨S40x20, .f32⟩
  | .hbm, ⟨6, _⟩ => ⟨S6144x5120, .fp8e4m3⟩
  | .hbm, ⟨7, _⟩ => ⟨S6144x40, .f32⟩
  | .hbm, ⟨8, _⟩ => ⟨S6144x2560, .fp8e4m3⟩
  | .hbm, ⟨9, _⟩ => ⟨S6144x20, .f32⟩
  | .local _ .vmem, ⟨0, _⟩ => ⟨S1024x5120, .fp8e4m3⟩
  | .local _ .vmem, ⟨1, _⟩ => ⟨S1024x5120, .fp8e4m3⟩
  | .local _ .vmem, ⟨2, _⟩ => ⟨S1024x40, .f32⟩
  | .local _ .vmem, ⟨3, _⟩ => ⟨S1024x40, .f32⟩
  | .local _ .vmem, ⟨4, _⟩ => ⟨S5120x256, .fp8e4m3⟩
  | .local _ .vmem, ⟨5, _⟩ => ⟨S5120x256, .fp8e4m3⟩
  | .local _ .vmem, ⟨6, _⟩ => ⟨S5120x256, .fp8e4m3⟩
  | .local _ .vmem, ⟨7, _⟩ => ⟨S5120x256, .fp8e4m3⟩
  | .local _ .vmem, ⟨8, _⟩ => ⟨S1024x256, .fp8e4m3⟩
  | .local _ .vmem, ⟨9, _⟩ => ⟨S1024x256, .fp8e4m3⟩
  | .local _ .vmem, ⟨10, _⟩ => ⟨S1024x20, .f32⟩
  | .local _ .vmem, ⟨11, _⟩ => ⟨S1024x20, .f32⟩
  | .local _ .vmem, ⟨12, _⟩ => ⟨S1024x5120, .bf16⟩
  | .local _ .vmem, ⟨13, _⟩ => ⟨S5120x256, .bf16⟩
  | .local _ .vmem, ⟨14, _⟩ => ⟨S5120x256, .bf16⟩
  | .local _ .smem, ⟨0, _⟩ => ⟨S40x20, .f32⟩
  | .local _ .smem, ⟨1, _⟩ => ⟨S40x20, .f32⟩
  | _, _ => ⟨S2x3072x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![6, 10], ![false, false]⟩

def k0_off1 (i : grid0.Coords) (c0_i32_1 : BitVec 32) : Fin 2 → Nat :=
  let c0 : Index := 0#32
  let arg1 : BitVec 32 := BitVec.ofNat 32 (i 1).val
  let c2_i32 : BitVec 32 := 2#32
  let v3 : BitVec 32 := Scalar.muli arg1 c2_i32
  let v4 : BitVec 32 := Scalar.addi v3 c0_i32_1
  let v5 : Index := Scalar.indexCast v4
  ![0, v5.toNat]
def k0_off2 (i : grid0.Coords) (c0_i32_12 : BitVec 32) : Fin 2 → Nat :=
  let c1 : Index := 1#32
  let arg1 : BitVec 32 := BitVec.ofNat 32 (i 1).val
  let c2_i32_11 : BitVec 32 := 2#32
  let v29 : BitVec 32 := Scalar.muli arg1 c2_i32_11
  let v30 : BitVec 32 := Scalar.addi v29 c0_i32_12
  let v31 : Index := Scalar.indexCast v30
  ![1, v31.toNat]
def k0_off3 (i : grid0.Coords) (c0_i32_25 : BitVec 32) : Fin 2 → Nat :=
  let c2 : Index := 2#32
  let arg1 : BitVec 32 := BitVec.ofNat 32 (i 1).val
  let c2_i32_24 : BitVec 32 := 2#32
  let v55 : BitVec 32 := Scalar.muli arg1 c2_i32_24
  let v56 : BitVec 32 := Scalar.addi v55 c0_i32_25
  let v57 : Index := Scalar.indexCast v56
  ![2, v57.toNat]
def k0_off4 (i : grid0.Coords) (c0_i32_37 : BitVec 32) : Fin 2 → Nat :=
  let c3 : Index := 3#32
  let arg1 : BitVec 32 := BitVec.ofNat 32 (i 1).val
  let c2_i32_36 : BitVec 32 := 2#32
  let v81 : BitVec 32 := Scalar.muli arg1 c2_i32_36
  let v82 : BitVec 32 := Scalar.addi v81 c0_i32_37
  let v83 : Index := Scalar.indexCast v82
  ![3, v83.toNat]
def k0_off5 (i : grid0.Coords) (c0_i32_49 : BitVec 32) : Fin 2 → Nat :=
  let c4 : Index := 4#32
  let arg1 : BitVec 32 := BitVec.ofNat 32 (i 1).val
  let c2_i32_48 : BitVec 32 := 2#32
  let v107 : BitVec 32 := Scalar.muli arg1 c2_i32_48
  let v108 : BitVec 32 := Scalar.addi v107 c0_i32_49
  let v109 : Index := Scalar.indexCast v108
  ![4, v109.toNat]
def k0_off6 (i : grid0.Coords) (c0_i32_61 : BitVec 32) : Fin 2 → Nat :=
  let c5 : Index := 5#32
  let arg1 : BitVec 32 := BitVec.ofNat 32 (i 1).val
  let c2_i32_60 : BitVec 32 := 2#32
  let v133 : BitVec 32 := Scalar.muli arg1 c2_i32_60
  let v134 : BitVec 32 := Scalar.addi v133 c0_i32_61
  let v135 : Index := Scalar.indexCast v134
  ![5, v135.toNat]
def k0_off7 (i : grid0.Coords) (c0_i32_73 : BitVec 32) : Fin 2 → Nat :=
  let c6 : Index := 6#32
  let arg1 : BitVec 32 := BitVec.ofNat 32 (i 1).val
  let c2_i32_72 : BitVec 32 := 2#32
  let v159 : BitVec 32 := Scalar.muli arg1 c2_i32_72
  let v160 : BitVec 32 := Scalar.addi v159 c0_i32_73
  let v161 : Index := Scalar.indexCast v160
  ![6, v161.toNat]
def k0_off8 (i : grid0.Coords) (c0_i32_85 : BitVec 32) : Fin 2 → Nat :=
  let c7 : Index := 7#32
  let arg1 : BitVec 32 := BitVec.ofNat 32 (i 1).val
  let c2_i32_84 : BitVec 32 := 2#32
  let v185 : BitVec 32 := Scalar.muli arg1 c2_i32_84
  let v186 : BitVec 32 := Scalar.addi v185 c0_i32_85
  let v187 : Index := Scalar.indexCast v186
  ![7, v187.toNat]
def k0_off9 (i : grid0.Coords) (c0_i32_97 : BitVec 32) : Fin 2 → Nat :=
  let c8 : Index := 8#32
  let arg1 : BitVec 32 := BitVec.ofNat 32 (i 1).val
  let c2_i32_96 : BitVec 32 := 2#32
  let v211 : BitVec 32 := Scalar.muli arg1 c2_i32_96
  let v212 : BitVec 32 := Scalar.addi v211 c0_i32_97
  let v213 : Index := Scalar.indexCast v212
  ![8, v213.toNat]
def k0_off10 (i : grid0.Coords) (c0_i32_109 : BitVec 32) : Fin 2 → Nat :=
  let c9 : Index := 9#32
  let arg1 : BitVec 32 := BitVec.ofNat 32 (i 1).val
  let c2_i32_108 : BitVec 32 := 2#32
  let v237 : BitVec 32 := Scalar.muli arg1 c2_i32_108
  let v238 : BitVec 32 := Scalar.addi v237 c0_i32_109
  let v239 : Index := Scalar.indexCast v238
  ![9, v239.toNat]
def k0_off11 (i : grid0.Coords) (c0_i32_121 : BitVec 32) : Fin 2 → Nat :=
  let c10 : Index := 10#32
  let arg1 : BitVec 32 := BitVec.ofNat 32 (i 1).val
  let c2_i32_120 : BitVec 32 := 2#32
  let v263 : BitVec 32 := Scalar.muli arg1 c2_i32_120
  let v264 : BitVec 32 := Scalar.addi v263 c0_i32_121
  let v265 : Index := Scalar.indexCast v264
  ![10, v265.toNat]
def k0_off12 (i : grid0.Coords) (c0_i32_133 : BitVec 32) : Fin 2 → Nat :=
  let c11 : Index := 11#32
  let arg1 : BitVec 32 := BitVec.ofNat 32 (i 1).val
  let c2_i32_132 : BitVec 32 := 2#32
  let v289 : BitVec 32 := Scalar.muli arg1 c2_i32_132
  let v290 : BitVec 32 := Scalar.addi v289 c0_i32_133
  let v291 : Index := Scalar.indexCast v290
  ![11, v291.toNat]
def k0_off13 (i : grid0.Coords) (c0_i32_145 : BitVec 32) : Fin 2 → Nat :=
  let c12 : Index := 12#32
  let arg1 : BitVec 32 := BitVec.ofNat 32 (i 1).val
  let c2_i32_144 : BitVec 32 := 2#32
  let v315 : BitVec 32 := Scalar.muli arg1 c2_i32_144
  let v316 : BitVec 32 := Scalar.addi v315 c0_i32_145
  let v317 : Index := Scalar.indexCast v316
  ![12, v317.toNat]
def k0_off14 (i : grid0.Coords) (c0_i32_157 : BitVec 32) : Fin 2 → Nat :=
  let c13 : Index := 13#32
  let arg1 : BitVec 32 := BitVec.ofNat 32 (i 1).val
  let c2_i32_156 : BitVec 32 := 2#32
  let v341 : BitVec 32 := Scalar.muli arg1 c2_i32_156
  let v342 : BitVec 32 := Scalar.addi v341 c0_i32_157
  let v343 : Index := Scalar.indexCast v342
  ![13, v343.toNat]
def k0_off15 (i : grid0.Coords) (c0_i32_169 : BitVec 32) : Fin 2 → Nat :=
  let c14 : Index := 14#32
  let arg1 : BitVec 32 := BitVec.ofNat 32 (i 1).val
  let c2_i32_168 : BitVec 32 := 2#32
  let v367 : BitVec 32 := Scalar.muli arg1 c2_i32_168
  let v368 : BitVec 32 := Scalar.addi v367 c0_i32_169
  let v369 : Index := Scalar.indexCast v368
  ![14, v369.toNat]
def k0_off16 (i : grid0.Coords) (c0_i32_181 : BitVec 32) : Fin 2 → Nat :=
  let c15 : Index := 15#32
  let arg1 : BitVec 32 := BitVec.ofNat 32 (i 1).val
  let c2_i32_180 : BitVec 32 := 2#32
  let v393 : BitVec 32 := Scalar.muli arg1 c2_i32_180
  let v394 : BitVec 32 := Scalar.addi v393 c0_i32_181
  let v395 : Index := Scalar.indexCast v394
  ![15, v395.toNat]
def k0_off17 (i : grid0.Coords) (c0_i32_193 : BitVec 32) : Fin 2 → Nat :=
  let c16 : Index := 16#32
  let arg1 : BitVec 32 := BitVec.ofNat 32 (i 1).val
  let c2_i32_192 : BitVec 32 := 2#32
  let v419 : BitVec 32 := Scalar.muli arg1 c2_i32_192
  let v420 : BitVec 32 := Scalar.addi v419 c0_i32_193
  let v421 : Index := Scalar.indexCast v420
  ![16, v421.toNat]
def k0_off18 (i : grid0.Coords) (c0_i32_205 : BitVec 32) : Fin 2 → Nat :=
  let c17 : Index := 17#32
  let arg1 : BitVec 32 := BitVec.ofNat 32 (i 1).val
  let c2_i32_204 : BitVec 32 := 2#32
  let v445 : BitVec 32 := Scalar.muli arg1 c2_i32_204
  let v446 : BitVec 32 := Scalar.addi v445 c0_i32_205
  let v447 : Index := Scalar.indexCast v446
  ![17, v447.toNat]
def k0_off19 (i : grid0.Coords) (c0_i32_217 : BitVec 32) : Fin 2 → Nat :=
  let c18 : Index := 18#32
  let arg1 : BitVec 32 := BitVec.ofNat 32 (i 1).val
  let c2_i32_216 : BitVec 32 := 2#32
  let v471 : BitVec 32 := Scalar.muli arg1 c2_i32_216
  let v472 : BitVec 32 := Scalar.addi v471 c0_i32_217
  let v473 : Index := Scalar.indexCast v472
  ![18, v473.toNat]
def k0_off20 (i : grid0.Coords) (c0_i32_229 : BitVec 32) : Fin 2 → Nat :=
  let c19 : Index := 19#32
  let arg1 : BitVec 32 := BitVec.ofNat 32 (i 1).val
  let c2_i32_228 : BitVec 32 := 2#32
  let v497 : BitVec 32 := Scalar.muli arg1 c2_i32_228
  let v498 : BitVec 32 := Scalar.addi v497 c0_i32_229
  let v499 : Index := Scalar.indexCast v498
  ![19, v499.toNat]
def k0_off21 (i : grid0.Coords) (c0_i32_241 : BitVec 32) : Fin 2 → Nat :=
  let c20 : Index := 20#32
  let arg1 : BitVec 32 := BitVec.ofNat 32 (i 1).val
  let c2_i32_240 : BitVec 32 := 2#32
  let v523 : BitVec 32 := Scalar.muli arg1 c2_i32_240
  let v524 : BitVec 32 := Scalar.addi v523 c0_i32_241
  let v525 : Index := Scalar.indexCast v524
  ![20, v525.toNat]
def k0_off22 (i : grid0.Coords) (c0_i32_253 : BitVec 32) : Fin 2 → Nat :=
  let c21 : Index := 21#32
  let arg1 : BitVec 32 := BitVec.ofNat 32 (i 1).val
  let c2_i32_252 : BitVec 32 := 2#32
  let v549 : BitVec 32 := Scalar.muli arg1 c2_i32_252
  let v550 : BitVec 32 := Scalar.addi v549 c0_i32_253
  let v551 : Index := Scalar.indexCast v550
  ![21, v551.toNat]
def k0_off23 (i : grid0.Coords) (c0_i32_265 : BitVec 32) : Fin 2 → Nat :=
  let c22 : Index := 22#32
  let arg1 : BitVec 32 := BitVec.ofNat 32 (i 1).val
  let c2_i32_264 : BitVec 32 := 2#32
  let v575 : BitVec 32 := Scalar.muli arg1 c2_i32_264
  let v576 : BitVec 32 := Scalar.addi v575 c0_i32_265
  let v577 : Index := Scalar.indexCast v576
  ![22, v577.toNat]
def k0_off24 (i : grid0.Coords) (c0_i32_277 : BitVec 32) : Fin 2 → Nat :=
  let c23 : Index := 23#32
  let arg1 : BitVec 32 := BitVec.ofNat 32 (i 1).val
  let c2_i32_276 : BitVec 32 := 2#32
  let v601 : BitVec 32 := Scalar.muli arg1 c2_i32_276
  let v602 : BitVec 32 := Scalar.addi v601 c0_i32_277
  let v603 : Index := Scalar.indexCast v602
  ![23, v603.toNat]
def k0_off25 (i : grid0.Coords) (c0_i32_289 : BitVec 32) : Fin 2 → Nat :=
  let c24 : Index := 24#32
  let arg1 : BitVec 32 := BitVec.ofNat 32 (i 1).val
  let c2_i32_288 : BitVec 32 := 2#32
  let v627 : BitVec 32 := Scalar.muli arg1 c2_i32_288
  let v628 : BitVec 32 := Scalar.addi v627 c0_i32_289
  let v629 : Index := Scalar.indexCast v628
  ![24, v629.toNat]
def k0_off26 (i : grid0.Coords) (c0_i32_301 : BitVec 32) : Fin 2 → Nat :=
  let c25 : Index := 25#32
  let arg1 : BitVec 32 := BitVec.ofNat 32 (i 1).val
  let c2_i32_300 : BitVec 32 := 2#32
  let v653 : BitVec 32 := Scalar.muli arg1 c2_i32_300
  let v654 : BitVec 32 := Scalar.addi v653 c0_i32_301
  let v655 : Index := Scalar.indexCast v654
  ![25, v655.toNat]
def k0_off27 (i : grid0.Coords) (c0_i32_313 : BitVec 32) : Fin 2 → Nat :=
  let c26 : Index := 26#32
  let arg1 : BitVec 32 := BitVec.ofNat 32 (i 1).val
  let c2_i32_312 : BitVec 32 := 2#32
  let v679 : BitVec 32 := Scalar.muli arg1 c2_i32_312
  let v680 : BitVec 32 := Scalar.addi v679 c0_i32_313
  let v681 : Index := Scalar.indexCast v680
  ![26, v681.toNat]
def k0_off28 (i : grid0.Coords) (c0_i32_325 : BitVec 32) : Fin 2 → Nat :=
  let c27 : Index := 27#32
  let arg1 : BitVec 32 := BitVec.ofNat 32 (i 1).val
  let c2_i32_324 : BitVec 32 := 2#32
  let v705 : BitVec 32 := Scalar.muli arg1 c2_i32_324
  let v706 : BitVec 32 := Scalar.addi v705 c0_i32_325
  let v707 : Index := Scalar.indexCast v706
  ![27, v707.toNat]
def k0_off29 (i : grid0.Coords) (c0_i32_337 : BitVec 32) : Fin 2 → Nat :=
  let c28 : Index := 28#32
  let arg1 : BitVec 32 := BitVec.ofNat 32 (i 1).val
  let c2_i32_336 : BitVec 32 := 2#32
  let v731 : BitVec 32 := Scalar.muli arg1 c2_i32_336
  let v732 : BitVec 32 := Scalar.addi v731 c0_i32_337
  let v733 : Index := Scalar.indexCast v732
  ![28, v733.toNat]
def k0_off30 (i : grid0.Coords) (c0_i32_349 : BitVec 32) : Fin 2 → Nat :=
  let c29 : Index := 29#32
  let arg1 : BitVec 32 := BitVec.ofNat 32 (i 1).val
  let c2_i32_348 : BitVec 32 := 2#32
  let v757 : BitVec 32 := Scalar.muli arg1 c2_i32_348
  let v758 : BitVec 32 := Scalar.addi v757 c0_i32_349
  let v759 : Index := Scalar.indexCast v758
  ![29, v759.toNat]
def k0_off31 (i : grid0.Coords) (c0_i32_361 : BitVec 32) : Fin 2 → Nat :=
  let c30 : Index := 30#32
  let arg1 : BitVec 32 := BitVec.ofNat 32 (i 1).val
  let c2_i32_360 : BitVec 32 := 2#32
  let v783 : BitVec 32 := Scalar.muli arg1 c2_i32_360
  let v784 : BitVec 32 := Scalar.addi v783 c0_i32_361
  let v785 : Index := Scalar.indexCast v784
  ![30, v785.toNat]
def k0_off32 (i : grid0.Coords) (c0_i32_373 : BitVec 32) : Fin 2 → Nat :=
  let c31 : Index := 31#32
  let arg1 : BitVec 32 := BitVec.ofNat 32 (i 1).val
  let c2_i32_372 : BitVec 32 := 2#32
  let v809 : BitVec 32 := Scalar.muli arg1 c2_i32_372
  let v810 : BitVec 32 := Scalar.addi v809 c0_i32_373
  let v811 : Index := Scalar.indexCast v810
  ![31, v811.toNat]
def k0_off33 (i : grid0.Coords) (c0_i32_385 : BitVec 32) : Fin 2 → Nat :=
  let c32 : Index := 32#32
  let arg1 : BitVec 32 := BitVec.ofNat 32 (i 1).val
  let c2_i32_384 : BitVec 32 := 2#32
  let v835 : BitVec 32 := Scalar.muli arg1 c2_i32_384
  let v836 : BitVec 32 := Scalar.addi v835 c0_i32_385
  let v837 : Index := Scalar.indexCast v836
  ![32, v837.toNat]
def k0_off34 (i : grid0.Coords) (c0_i32_397 : BitVec 32) : Fin 2 → Nat :=
  let c33 : Index := 33#32
  let arg1 : BitVec 32 := BitVec.ofNat 32 (i 1).val
  let c2_i32_396 : BitVec 32 := 2#32
  let v861 : BitVec 32 := Scalar.muli arg1 c2_i32_396
  let v862 : BitVec 32 := Scalar.addi v861 c0_i32_397
  let v863 : Index := Scalar.indexCast v862
  ![33, v863.toNat]
def k0_off35 (i : grid0.Coords) (c0_i32_409 : BitVec 32) : Fin 2 → Nat :=
  let c34 : Index := 34#32
  let arg1 : BitVec 32 := BitVec.ofNat 32 (i 1).val
  let c2_i32_408 : BitVec 32 := 2#32
  let v887 : BitVec 32 := Scalar.muli arg1 c2_i32_408
  let v888 : BitVec 32 := Scalar.addi v887 c0_i32_409
  let v889 : Index := Scalar.indexCast v888
  ![34, v889.toNat]
def k0_off36 (i : grid0.Coords) (c0_i32_421 : BitVec 32) : Fin 2 → Nat :=
  let c35 : Index := 35#32
  let arg1 : BitVec 32 := BitVec.ofNat 32 (i 1).val
  let c2_i32_420 : BitVec 32 := 2#32
  let v913 : BitVec 32 := Scalar.muli arg1 c2_i32_420
  let v914 : BitVec 32 := Scalar.addi v913 c0_i32_421
  let v915 : Index := Scalar.indexCast v914
  ![35, v915.toNat]
def k0_off37 (i : grid0.Coords) (c0_i32_433 : BitVec 32) : Fin 2 → Nat :=
  let c36 : Index := 36#32
  let arg1 : BitVec 32 := BitVec.ofNat 32 (i 1).val
  let c2_i32_432 : BitVec 32 := 2#32
  let v939 : BitVec 32 := Scalar.muli arg1 c2_i32_432
  let v940 : BitVec 32 := Scalar.addi v939 c0_i32_433
  let v941 : Index := Scalar.indexCast v940
  ![36, v941.toNat]
def k0_off38 (i : grid0.Coords) (c0_i32_445 : BitVec 32) : Fin 2 → Nat :=
  let c37 : Index := 37#32
  let arg1 : BitVec 32 := BitVec.ofNat 32 (i 1).val
  let c2_i32_444 : BitVec 32 := 2#32
  let v965 : BitVec 32 := Scalar.muli arg1 c2_i32_444
  let v966 : BitVec 32 := Scalar.addi v965 c0_i32_445
  let v967 : Index := Scalar.indexCast v966
  ![37, v967.toNat]
def k0_off39 (i : grid0.Coords) (c0_i32_457 : BitVec 32) : Fin 2 → Nat :=
  let c38 : Index := 38#32
  let arg1 : BitVec 32 := BitVec.ofNat 32 (i 1).val
  let c2_i32_456 : BitVec 32 := 2#32
  let v991 : BitVec 32 := Scalar.muli arg1 c2_i32_456
  let v992 : BitVec 32 := Scalar.addi v991 c0_i32_457
  let v993 : Index := Scalar.indexCast v992
  ![38, v993.toNat]
def k0_off40 (i : grid0.Coords) (c0_i32_469 : BitVec 32) : Fin 2 → Nat :=
  let c39 : Index := 39#32
  let arg1 : BitVec 32 := BitVec.ofNat 32 (i 1).val
  let c2_i32_468 : BitVec 32 := 2#32
  let v1017 : BitVec 32 := Scalar.muli arg1 c2_i32_468
  let v1018 : BitVec 32 := Scalar.addi v1017 c0_i32_469
  let v1019 : Index := Scalar.indexCast v1018
  ![39, v1019.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S40x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S40x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S5120x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S5120x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x3072x5120 : Shape := ⟨3, ![2, 3072, 5120]⟩
abbrev S2x3072x40 : Shape := ⟨3, ![2, 3072, 40]⟩
abbrev S5120x2560 : Shape := ⟨2, ![5120, 2560]⟩
abbrev S40x20 : Shape := ⟨2, ![40, 20]⟩
abbrev S6144x2560 : Shape := ⟨2, ![6144, 2560]⟩
abbrev S6144x20 : Shape := ⟨2, ![6144, 20]⟩
abbrev S2x3072x40x128 : Shape := ⟨4, ![2, 3072, 40, 128]⟩
abbrev S2x3072x40x1 : Shape := ⟨4, ![2, 3072, 40, 1]⟩
abbrev S40x128x20x128 : Shape := ⟨4, ![40, 128, 20, 128]⟩
abbrev S40x1x20x1 : Shape := ⟨4, ![40, 1, 20, 1]⟩
abbrev S2x3072x2560 : Shape := ⟨3, ![2, 3072, 2560]⟩
abbrev S2x3072x20x128 : Shape := ⟨4, ![2, 3072, 20, 128]⟩
abbrev S2x3072x20 : Shape := ⟨3, ![2, 3072, 20]⟩
abbrev S2x3072x20x1 : Shape := ⟨4, ![2, 3072, 20, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x3072x5120, .fp8e4m3⟩
  | .hbm, ⟨1, _⟩ => ⟨S2x3072x40, .f32⟩
  | .hbm, ⟨2, _⟩ => ⟨S5120x2560, .fp8e4m3⟩
  | .hbm, ⟨3, _⟩ => ⟨S40x20, .f32⟩
  | .hbm, ⟨4, _⟩ => ⟨S5120x2560, .fp8e4m3⟩
  | .hbm, ⟨5, _⟩ => ⟨S40x20, .f32⟩
  | .hbm, ⟨6, _⟩ => ⟨S6144x2560, .fp8e4m3⟩
  | .hbm, ⟨7, _⟩ => ⟨S6144x20, .f32⟩
  | .local _ .vmem, ⟨0, _⟩ => ⟨S2x3072x5120, .fp8e4m3⟩
  | .local _ .vmem, ⟨1, _⟩ => ⟨S2x3072x40, .f32⟩
  | .local _ .vmem, ⟨2, _⟩ => ⟨S5120x2560, .fp8e4m3⟩
  | .local _ .vmem, ⟨3, _⟩ => ⟨S40x20, .f32⟩
  | .local _ .vmem, ⟨4, _⟩ => ⟨S5120x2560, .fp8e4m3⟩
  | .local _ .vmem, ⟨5, _⟩ => ⟨S40x20, .f32⟩
  | .local _ .vmem, ⟨6, _⟩ => ⟨S6144x2560, .fp8e4m3⟩
  | .local _ .vmem, ⟨7, _⟩ => ⟨S6144x20, .f32⟩
  | _, _ => ⟨S2x3072x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_ln2" => some (((Real.log 2)⁻¹ : ℝ) : EReal)
  | _ => none

abbrev grid0 : Pipeline.Grid := .none

abbrev stage0_0 : Fin 1 → Memref sig .tc .vmem S2x3072x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Widen.lean ====
/-
  The buffers that the kernel fills before its two products, as functions of the blocks it reads: the activations times
  their scales (written at the first point of each row block, carried to the others) and the two weight blocks times
  their scales (written at every point). Each is stored tile by tile; the lemmas here read all the tiles back as one array.
-/
module

public import proofs.«01_k».proof.Proof.Gen.KernelIdeal.Frame
public import Idealize.ShloMosaic.PureOps.Ideal
public import Idealize.ShloMosaic.Lib.Pipeline.ValueKit

@[expose] public section

set_option maxRecDepth 16384
set_option maxHeartbeats 2000000

noncomputable section

namespace Cert.Proof.Widen

open Cert.KernelIdeal Cert.KernelIdeal.Gen Idealize.ShloMosaic Idealize.ShloMosaic.TcCoe Idealize.SL.Sem

/-- The weight scale of element `j` of a weight block at grid point `i`: row tile, and column tile counted from the
    block's first column tile. -/
def scaleAt (i : grid0.Coords) (j : S5120x256.Idx) : S40x20.Idx := fun a => match a with
  | ⟨0, _⟩ => ⟨(j 0).val / 128, by have h : (j 0).val < 5120 := (j 0).isLt; show _ < 40; omega⟩
  | ⟨1, _⟩ => ⟨2 * (i 1).val + (j 1).val / 128, by
      have h : (j 1).val < 256 := (j 1).isLt; have h' : (i 1).val < 10 := (i 1).isLt; show _ < 20; omega⟩

/-- A weight block with each 128 by 128 tile multiplied by its scale. -/
def wide (s : Vec Ideal S40x20 .f32) (w : Vec Ideal S5120x256 .fp8e4m3) (i : grid0.Coords) : Vec Ideal S5120x256 .bf16 :=
  fun j => (w j : EReal) * s (scaleAt i j)

/-- The activation scale of element `j`: its row, and its group of 128 columns. -/
def groupAt (j : S1024x5120.Idx) : S1024x40.Idx := fun a => match a with
  | ⟨0, _⟩ => ⟨(j 0).val, (j 0).isLt⟩
  | ⟨1, _⟩ => ⟨(j 1).val / 128, by have h : (j 1).val < 5120 := (j 1).isLt; show _ < 40; omega⟩

/-- A block of activations with each group of 128 in a row multiplied by its scale. -/
def wideX (x : Vec Ideal S1024x5120 .fp8e4m3) (s : Vec Ideal S1024x40 .f32) : Vec Ideal S1024x5120 .bf16 :=
  fun j => (x j : EReal) * s (groupAt j)

/-- The column of the scale array that the kernel computes in 32-bit words, as a natural number. -/
theorem scale_col (i : grid0.Coords) (r : Fin 2) :
    (Scalar.indexCast (Scalar.addi (Scalar.muli (BitVec.ofNat 32 (i 1).val) 2#32) (BitVec.ofNat 32 r.val))).toNat
      = 2 * (i 1).val + r.val := by
  have h : ∀ n : Fin 10, ∀ r : Fin 2,
      (Scalar.indexCast (Scalar.addi (Scalar.muli (BitVec.ofNat 32 n.val) 2#32) (BitVec.ofNat 32 r.val))).toNat
        = 2 * n.val + r.val := by decide +kernel
  exact h (i 1) r

/-- The row of an element of a group of columns, as an index of a column of row scales. -/
def rowOf (x : S1024x128.Idx) : S1024x1.Idx := fun a => match a with
  | ⟨0, _⟩ => ⟨(x 0).val, (x 0).isLt⟩
  | ⟨1, _⟩ => ⟨0, by show 0 < 1; omega⟩

/-- The tile that holds a position, from its offset in the tile. -/
theorem tile_of {y off x k : ℕ} (h : y = off + x) (hx : x < 128) (hk : off = 128 * k) : y / 128 = k := by omega

/-- One tile of a widened weight block: the tile `v`, times its one scale `b` spread over the tile. -/
theorem tile_apply (v : Vec Ideal S128x128 .fp8e4m3) (b : Ideal .f32) (h1 h3 h4 h5) (x : S128x128.Idx) :
    shapeCast S128x128 (mulf (F := Ideal) (extf (φ := .fp8e4m3) .bf16 v h1)
      (broadcastTo S128x128 (truncf (φ := .f32) .bf16 (broadcast S1x128 b) h3) h4)) h5 x = (v x : EReal) * b := by
  rw [shapeCast_self]; rfl

/-- One group of columns of the widened activations: the group `v`, times each row's scale `b` spread along the row. -/
theorem group_apply (v : Vec Ideal S1024x128 .fp8e4m3) (b : Vec Ideal S1024x1 .f32) (h1 h2 h3 h4 h5 h6) (x : S1024x128.Idx) (k : S1024x1.Idx)
    (hk : (k 0).val = (x 0).val) :
    shapeCast S1024x128 (mulf (F := Ideal) (extf (φ := .fp8e4m3) .bf16 (shapeCast (α := Ideal .fp8e4m3) S1024x128 v h5) h1)
      (broadcastTo S1024x128 (truncf (φ := .f32) .bf16 (shapeCast (α := Ideal .f32) S1024x1 b h6) h3) h4)) h2 x
      = (v x : EReal) * b k := by
  rw [shapeCast_self, shapeCast_self, shapeCast_self]
  show (v x : EReal) * b _ = v x * b k
  refine congrArg (fun q => (v x : EReal) * b q) (funext fun a => Fin.ext ?_)
  match a with
  | ⟨0, _⟩ => exact hk.symm
  | ⟨1, _⟩ => show 0 = (k 1).val; have h : (k 1).val < 1 := (k 1).isLt; omega

/-- A block loaded at an offset, at an index: the array there, for any array of two dimensions. -/
theorem ld_at {e' : EltTy} {s : Shape} (w : Vec Ideal s e') (off n : Fin s.rank → ℕ) (inb) (x : (Rect.unit (s := s) off n inb).shape.Idx) (y : s.Idx)
    (h : ∀ a, (y a).val = off a + (x a).val) : View.ld (Val := Elt Ideal) w (Rect.unit (s := s) off n inb) x = w y :=
  congrArg w (funext fun a => Fin.ext (by rw [h a]; show off a + 1 * (x a).val = _; omega))

variable (c : Dev nD) (i : grid0.Coords)
  (arg2 : Memref sig .tc .smem S40x20 .f32) (harg2 : arg2.IsWhole) (arg3 : Memref sig .tc .smem S40x20 .f32) (harg3 : arg3.IsWhole)
  (arg4 : Memref sig .tc .vmem S1024x5120 .fp8e4m3) (harg4 : arg4.IsWhole) (arg5 : Memref sig .tc .vmem S1024x40 .f32) (harg5 : arg5.IsWhole)
  (arg6 : Memref sig .tc .vmem S5120x256 .fp8e4m3) (harg6 : arg6.IsWhole) (arg7 : Memref sig .tc .vmem S5120x256 .fp8e4m3) (harg7 : arg7.IsWhole)
  (arg8 : Memref sig .tc .vmem S1024x256 .fp8e4m3) (harg8 : arg8.IsWhole) (arg9 : Memref sig .tc .vmem S1024x20 .f32) (harg9 : arg9.IsWhole)
  (arg10 : Memref sig .tc .vmem S1024x5120 .bf16) (harg10 : arg10.IsWhole) (arg11 : Memref sig .tc .vmem S5120x256 .bf16) (harg11 : arg11.IsWhole)
  (arg12 : Memref sig .tc .vmem S5120x256 .bf16) (harg12 : arg12.IsWhole)
  (x0 x1 : Vec Ideal S40x20 .f32) (x2 : Vec Ideal S1024x5120 .fp8e4m3) (x3 : Vec Ideal S1024x40 .f32)
  (x4 x5 : Vec Ideal S5120x256 .fp8e4m3) (xo7 : Vec Ideal S1024x20 .f32) (xs0 : Vec Ideal S1024x5120 .bf16)

/-- The two widened weight blocks at the first point of a row block. -/
theorem weights_A (hc0 : cond0_0 i) :
    View.canon (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.2.2.1 = wide x0 x4 i
    ∧ View.canon (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.2.2.2.1 = wide x1 x5 i := by
  constructor
  all_goals
    funext y
    frame_out
    canon_tiles x h
  all_goals
    open_payloads
    refine (tile_apply _ _ _ _ _ _ x).trans (congrArg₂ (fun (p q : EReal) => p * q) (ld_at _ _ _ _ _ y ?_) (ld_at _ _ _ _ _ (scaleAt i y) ?_))
    · exact Fin.forall_fin_two.mpr ⟨by simpa using h0, by simpa using h1⟩
    · refine Fin.forall_fin_two.mpr ⟨?_, ?_⟩
      · first
          | exact tile_of h0 x0_lt rfl
          | exact tile_of (y := (y 0).val) (off := 0) (k := 0) (by omega) x0_lt rfl
      · first
          | exact (congrArg (fun q => 2 * (i 1).val + q) (tile_of (y := (y 1).val) (off := 0) (k := 0) (by omega) x1_lt rfl)).trans (scale_col i 0).symm
          | exact (congrArg (fun q => 2 * (i 1).val + q) (tile_of (k := 1) h1 x1_lt rfl)).trans (scale_col i 1).symm

/-- The two widened weight blocks at the other points of a row block. -/
theorem weights_B (hc0 : ¬cond0_0 i) :
    View.canon (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 xo7 xs0).2.2.2.1 = wide x0 x4 i
    ∧ View.canon (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 xo7 xs0).2.2.2.2.1 = wide x1 x5 i := by
  constructor
  all_goals
    funext y
    frame_out
    canon_tiles x h
  all_goals
    open_payloads
    refine (tile_apply _ _ _ _ _ _ x).trans (congrArg₂ (fun (p q : EReal) => p * q) (ld_at _ _ _ _ _ y ?_) (ld_at _ _ _ _ _ (scaleAt i y) ?_))
    · exact Fin.forall_fin_two.mpr ⟨by simpa using h0, by simpa using h1⟩
    · refine Fin.forall_fin_two.mpr ⟨?_, ?_⟩
      · first
          | exact tile_of h0 x0_lt rfl
          | exact tile_of (y := (y 0).val) (off := 0) (k := 0) (by omega) x0_lt rfl
      · first
          | exact (congrArg (fun q => 2 * (i 1).val + q) (tile_of (y := (y 1).val) (off := 0) (k := 0) (by omega) x1_lt rfl)).trans (scale_col i 0).symm
          | exact (congrArg (fun q => 2 * (i 1).val + q) (tile_of (k := 1) h1 x1_lt rfl)).trans (scale_col i 1).symm

/-- The widened activations, at the point that writes them. -/
theorem acts_A (hc0 : cond0_0 i) :
    View.canon (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.2.1 = wideX x2 x3 := by
  funext y
  frame_out
  canon_tiles x h
  all_goals
    open_payloads
    refine (group_apply _ _ _ _ _ _ _ _ x (rowOf x) rfl).trans
      (congrArg₂ (fun (p q : EReal) => p * q) (ld_at _ _ _ _ _ y ?_) (ld_at _ _ _ _ _ (groupAt y) ?_))
    · exact Fin.forall_fin_two.mpr ⟨by simpa using h0, by simpa using h1⟩
    · refine Fin.forall_fin_two.mpr ⟨?_, ?_⟩
      · exact h0.trans (Nat.zero_add _).symm
      · first
          | exact tile_of h1 x1_lt rfl
          | exact tile_of (y := (y 1).val) (off := 0) (k := 0) (by omega) x1_lt rfl

end Cert.Proof.Widen
-- ==== Proof.Exponent.lean ====
/-
  The power-of-two scale of a group. The kernel finds the exponent field of a float by eight comparisons with powers of two
  whose words it builds one bit at a time; the reference takes the floor of a logarithm. On the extended reals both give the
  same power of two, and the same reciprocal.
-/
module

public import Idealize.ShloMosaic.PureOps.Ideal
public import Idealize.ShloMosaic.Lib.Pipeline.ValueKit

@[expose] public section

set_option maxRecDepth 16384

noncomputable section

namespace Cert.Proof.Exponent

open Idealize.ShloMosaic

/-- The word whose exponent field is `k` and whose fraction is zero. -/
def word (k : ℕ) : BitVec 32 := BitVec.ofNat 32 (k * 8388608)

/-- What the word of exponent field `k` denotes. -/
def val (k : ℕ) : EReal := Ideal.ofBits .f32 (word k)

/-- A word with an ordinary exponent field denotes a power of two. -/
theorem val_eq (k : ℕ) (h1 : 1 ≤ k) (h2 : k ≤ 254) : val k = (((2 : ℝ) ^ ((k : ℤ) - 127) : ℝ) : EReal) := by
  have e1 : ((word k).extractLsb' 23 8).toNat = k := by
    have h : ∀ k : Fin 255, ((word k.val).extractLsb' 23 8).toNat = k.val := by decide +kernel
    exact h ⟨k, by omega⟩
  have e2 : ((word k).extractLsb' 0 23).toNat = 0 := by
    have h : ∀ k : Fin 255, ((word k.val).extractLsb' 0 23).toNat = 0 := by decide +kernel
    exact h ⟨k, by omega⟩
  have e3 : ((word k).extractLsb' 31 1 == 1#1) = false := by
    have h : ∀ k : Fin 255, ((word k.val).extractLsb' 31 1 == 1#1) = false := by decide +kernel
    exact h ⟨k, by omega⟩
  show Ideal.ieee 8 23 (word k) = _
  unfold Ideal.ieee
  simp only [e1, e2, e3]
  rw [if_neg (by omega), if_neg (by omega)]
  congr 1
  have : (2 : ℝ) ^ ((k : ℤ) - 127) = 2 ^ (23 : ℤ) * 2 ^ ((k : ℤ) - (2 ^ (8 - 1) - 1) - (23 : ℕ)) := by
    rw [← zpow_add₀ (by norm_num : (2 : ℝ) ≠ 0)]; congr 1; norm_num
  rw [this]; norm_num

/-- The word of exponent field 255 denotes infinity. -/
theorem val_top : val 255 = ⊤ := by
  show Ideal.ieee 8 23 (word 255) = _
  simp [Ideal.ieee, word]

/-- One comparison of the search: add the bit when the value reaches the word with it. -/
def probe (r : Ideal .f32) (w : BitVec 32) (f : BitVec 32) : BitVec 32 :=
  Scalar.select (FloatOps.cmpf .oge r (FloatOps.ofBits .f32 (IntOp.addi f w))) (IntOp.addi f w) f

/-- The same comparison on exponent fields as naturals. -/
theorem probe_word (r : Ideal .f32) (w : ℕ) (f : ℕ) :
    probe r (word w) (word f) = word (if val (f + w) ≤ r then f + w else f) := by
  have h : IntOp.addi (word f) (word w) = word (f + w) := by
    show word f + word w = _
    unfold word; rw [← BitVec.ofNat_add, Nat.add_mul]
  unfold probe
  rw [h]
  show Scalar.select (BitVec.ofBool (decide (val (f + w) ≤ r))) _ _ = _
  by_cases hc : val (f + w) ≤ r
  · rw [if_pos hc, decide_eq_true hc]; rfl
  · rw [if_neg hc, decide_eq_false hc]; rfl

/-- The kernel's search for the exponent field, over its eight bits from the highest. -/
def search (r : Ideal .f32) : BitVec 32 :=
  probe r 8388608#32 (probe r 16777216#32 (probe r 33554432#32 (probe r 67108864#32 (probe r 134217728#32 (probe r 268435456#32
    (probe r 536870912#32 (probe r 1073741824#32 0#32)))))))

/-- One step keeps the sought field between the bits found and the bits left. -/
theorem step {r : EReal} {K : ℕ} (hK : ∀ j, 1 ≤ j → j ≤ 255 → (val j ≤ r ↔ j ≤ K)) (m w : ℕ) (hw : 1 ≤ w)
    (h : m ≤ K ∧ K < m + 2 * w ∧ m + 2 * w ≤ 256) :
    let m' := if val (m + w) ≤ r then m + w else m
    m' ≤ K ∧ K < m' + w ∧ m' + w ≤ 256 := by
  have := hK (m + w) (by omega) (by omega)
  dsimp only
  split_ifs with hc
  · have := this.mp hc; omega
  · have : ¬ (m + w ≤ K) := fun h => hc (this.mpr h)
    omega

/-- The search ends at the field `K` when the words up to `K` are exactly those that the value reaches. -/
theorem search_eq (r : Ideal .f32) (K : ℕ) (hK256 : K < 256) (hK : ∀ j, 1 ≤ j → j ≤ 255 → (val j ≤ (r : EReal) ↔ j ≤ K)) :
    search r = word K := by
  have hs : search r = probe r (word 1) (probe r (word 2) (probe r (word 4) (probe r (word 8) (probe r (word 16) (probe r (word 32)
    (probe r (word 64) (probe r (word 128) (word 0)))))))) := rfl
  rw [hs]
  simp only [probe_word]
  have h := step hK _ 1 (by omega) (step hK _ 2 (by omega) (step hK _ 4 (by omega) (step hK _ 8 (by omega)
    (step hK _ 16 (by omega) (step hK _ 32 (by omega) (step hK _ 64 (by omega) (step hK 0 128 (by omega) ⟨by omega, by omega, by omega⟩)))))))
  dsimp only at h
  congr 1
  omega

/-- The end of the kernel's computation of a field: the field of infinity from `2 ^ 120` on, and the field 126 of the unit scale in
    place of a zero or an infinite field. -/
def adjust (r : Ideal .f32) (f : BitVec 32) : BitVec 32 :=
  let g := Scalar.select (FloatOps.cmpf .oge r (FloatOps.ofBits .f32 0x7B800000#32)) 2139095040#32 f
  Scalar.select (IntOp.ori (IntOp.cmpi .eq g 0#32) (IntOp.cmpi .eq g 2139095040#32)) 1056964608#32 g

/-- The kernel's exponent field of a magnitude. -/
def field (r : Ideal .f32) : BitVec 32 := adjust r (search r)

/-- The kernel's scale and its reciprocal. -/
def scale (r : Ideal .f32) : Ideal .f32 := FloatOps.ofBits .f32 (IntOp.addi (field r) 8388608#32)
def recip (r : Ideal .f32) : Ideal .f32 := FloatOps.ofBits .f32 (IntOp.subi 2122317824#32 (field r))

/-- The reference's exponent of a ratio: the floor of its base-2 logarithm plus one, and zero out of the range of normal scales. -/
def expo (r : Ideal .f32) : Ideal .f32 :=
  Scalar.select (IntOp.ori (FloatOps.cmpf .olt r (FloatOps.ofBits .f32 0x00800000#32)) (FloatOps.cmpf .oge r (FloatOps.ofBits .f32 0x7B800000#32)))
    (FloatOps.ofBits .f32 0x00000000#32)
    (FloatOps.addf (FloatOps.floor (FloatOps.mulf (FloatOps.log r) (((Real.log 2)⁻¹ : ℝ) : EReal))) (FloatOps.ofBits .f32 0x3F800000#32))

/-- The base-2 logarithm as the reference writes it. -/
def lg (x : ℝ) : ℝ := Real.log x * (Real.log 2)⁻¹

/-- An integer is at most the base-2 logarithm exactly when its power of two is at most the number. -/
theorem le_lg_iff (x : ℝ) (hx : 0 < x) (n : ℤ) : (n : ℝ) ≤ lg x ↔ (2 : ℝ) ^ n ≤ x := by
  have h2 : 0 < Real.log 2 := Real.log_pos (by norm_num)
  unfold lg
  rw [← div_eq_mul_inv, le_div_iff₀ h2, ← Real.log_zpow, Real.log_le_log_iff (by positivity) hx]

/-- The word of exponent field `j` is at most a positive real below `2 ^ 120` exactly when `j - 127` is at most the floor of the
    real's base-2 logarithm. -/
theorem val_le_iff (x : ℝ) (hx : 0 < x) (hx' : x < 2 ^ (120 : ℤ)) (j : ℕ) (h1 : 1 ≤ j) (h2 : j ≤ 255) :
    val j ≤ (x : EReal) ↔ (j : ℤ) - 127 ≤ ⌊lg x⌋ := by
  have hlt : ⌊lg x⌋ < 120 := by
    rw [Int.floor_lt, ← not_le, le_lg_iff x hx, not_le]; exact hx'
  rcases Nat.lt_or_ge j 255 with h | h
  · rw [val_eq j h1 (by omega), EReal.coe_le_coe_iff, Int.le_floor, le_lg_iff x hx]
  · have : j = 255 := by omega
    subst this
    rw [val_top]
    constructor
    · intro h; exact absurd (top_le_iff.mp h) (EReal.coe_ne_top x)
    · intro h; push_cast at h; omega

theorem one_eq : (FloatOps.ofBits .f32 0x3F800000#32 : Ideal .f32) = ((1 : ℝ) : EReal) := by
  have := val_eq 127 (by omega) (by omega)
  norm_num at this
  exact this

theorem zero_eq : (FloatOps.ofBits .f32 0x00000000#32 : Ideal .f32) = (0 : EReal) := by
  show Ideal.ofBits .f32 0x00000000#32 = 0; simp

/-- A comparison is 1 where it holds. -/
theorem cmp_oge (r s : EReal) : (FloatOps.cmpf (F := Ideal) (φ := .f32) .oge r s) = BitVec.ofBool (decide (s ≤ r)) := rfl
theorem cmp_olt (r s : EReal) : (FloatOps.cmpf (F := Ideal) (φ := .f32) .olt r s) = BitVec.ofBool (decide (r < s)) := rfl

/-- In the range of normal scales the field is the sought one, between 1 and 246. -/
theorem field_of_range (x : ℝ) (h1 : (2 : ℝ) ^ (-126 : ℤ) ≤ x) (h2 : x < 2 ^ (120 : ℤ)) :
    ∃ K : ℕ, 1 ≤ K ∧ K ≤ 246 ∧ (K : ℤ) - 127 = ⌊lg x⌋ ∧ field (x : EReal) = word K := by
  have hx : 0 < x := lt_of_lt_of_le (by positivity) h1
  have hlt : ⌊lg x⌋ < 120 := by
    rw [Int.floor_lt, ← not_le, le_lg_iff x hx, not_le]; exact h2
  have hge : -126 ≤ ⌊lg x⌋ := by
    rw [Int.le_floor, le_lg_iff x hx]; exact h1
  obtain ⟨K, hK⟩ : ∃ K : ℕ, (K : ℤ) = ⌊lg x⌋ + 127 := ⟨(⌊lg x⌋ + 127).toNat, by omega⟩
  refine ⟨K, by omega, by omega, by omega, ?_⟩
  have hs : search (x : EReal) = word K := search_eq _ K (by omega) fun j hj1 hj2 => by
    rw [val_le_iff x hx h2 j hj1 hj2]; omega
  have hbig : ¬ (FloatOps.ofBits .f32 0x7B800000#32 : Ideal .f32) ≤ (x : EReal) := by
    have h := val_le_iff x hx h2 247 (by omega) (by omega)
    intro hc; have := h.mp hc; push_cast at this; omega
  unfold field adjust
  rw [cmp_oge, decide_eq_false hbig, hs]
  have hf : ∀ k : Fin 247, 1 ≤ k.val → Scalar.select (IntOp.ori (IntOp.cmpi .eq (word k.val) 0#32) (IntOp.cmpi .eq (word k.val) 2139095040#32)) 1056964608#32 (word k.val) = word k.val := by
    decide +kernel
  exact hf ⟨K, by omega⟩ (by show 1 ≤ K; omega)

/-- Out of the range the field is 126. -/
theorem field_of_out (r : EReal) (h0 : 0 ≤ r) (h : r < val 1 ∨ val 247 ≤ r) : field r = word 126 := by
  by_cases hb : val 247 ≤ r
  · unfold field adjust
    rw [cmp_oge, decide_eq_true (show (FloatOps.ofBits .f32 0x7B800000#32 : Ideal .f32) ≤ r from hb)]
    show Scalar.select (IntOp.ori (IntOp.cmpi .eq (2139095040#32 : BitVec 32) 0#32) (IntOp.cmpi .eq (2139095040#32 : BitVec 32) 2139095040#32)) 1056964608#32
      2139095040#32 = _
    decide +kernel
  · have hl : r < val 1 := h.resolve_right hb
    have hs : search r = word 0 := search_eq _ 0 (by omega) fun j hj1 hj2 => by
      refine ⟨fun hj => ?_, fun hj => by omega⟩
      exfalso
      have hjr : val j < val 1 := lt_of_le_of_lt hj hl
      rcases Nat.lt_or_ge j 255 with h | h
      · rw [val_eq j hj1 (by omega), val_eq 1 (by omega) (by omega), EReal.coe_lt_coe_iff, zpow_lt_zpow_iff_right₀ (by norm_num)] at hjr
        push_cast at hjr; omega
      · have : j = 255 := by omega
        rw [this, val_top] at hjr
        exact not_top_lt hjr
    unfold field adjust
    rw [cmp_oge, decide_eq_false (show ¬ (FloatOps.ofBits .f32 0x7B800000#32 : Ideal .f32) ≤ r from hb), hs]
    rfl

/-- The kernel's scale is two to the reference's exponent, and its reciprocal two to the negated exponent. -/
theorem scale_recip (r : EReal) (h0 : 0 ≤ r) :
    scale r = FloatOps.exp2 (expo r) ∧ recip r = FloatOps.exp2 (FloatOps.subf (FloatOps.ofBits .f32 0x00000000#32) (expo r)) := by
  by_cases hout : r < val 1 ∨ val 247 ≤ r
  · have he : expo r = (0 : EReal) := by
      unfold expo
      rw [cmp_olt, cmp_oge, zero_eq]
      rcases hout with h | h
      · rw [decide_eq_true (show r < (FloatOps.ofBits .f32 0x00800000#32 : Ideal .f32) from h)]
        generalize decide ((FloatOps.ofBits .f32 0x7B800000#32 : Ideal .f32) ≤ r) = d; cases d <;> rfl
      · rw [decide_eq_true (show (FloatOps.ofBits .f32 0x7B800000#32 : Ideal .f32) ≤ r from h)]
        generalize decide (r < (FloatOps.ofBits .f32 0x00800000#32 : Ideal .f32)) = d; cases d <;> rfl
    unfold scale recip
    rw [field_of_out r h0 hout, he, zero_eq]
    have h127 : val 127 = ((1 : ℝ) : EReal) := by rw [val_eq 127 (by omega) (by omega)]; norm_num
    have hx : (FloatOps.exp2 (0 : EReal) : Ideal .f32) = ((1 : ℝ) : EReal) := by
      show Ideal.exp2 ((0 : ℝ) : EReal) = _
      rw [Ideal.exp2_coe]; norm_num
    have hz : (FloatOps.subf (0 : EReal) (0 : EReal) : Ideal .f32) = (0 : EReal) := by
      show (0 : EReal) - 0 = 0; simp
    rw [hz, hx]
    exact ⟨h127, h127⟩
  · have h1 : val 1 ≤ r := not_lt.mp fun h => hout (.inl h)
    have h2 : r < val 247 := not_le.mp fun h => hout (.inr h)
    have v1 : val 1 = (((2 : ℝ) ^ (-126 : ℤ) : ℝ) : EReal) := by rw [val_eq 1 (by omega) (by omega)]; norm_num
    have v2 : val 247 = (((2 : ℝ) ^ (120 : ℤ) : ℝ) : EReal) := by rw [val_eq 247 (by omega) (by omega)]; norm_num
    induction r using EReal.rec with
    | bot => exact absurd h0 (by simp)
    | top => exact absurd h2 (by simp)
    | coe x =>
      have g1 : (2 : ℝ) ^ (-126 : ℤ) ≤ x := by rw [v1] at h1; exact_mod_cast h1
      have g2 : x < 2 ^ (120 : ℤ) := by rw [v2] at h2; exact_mod_cast h2
      have hx : 0 < x := lt_of_lt_of_le (by positivity) g1
      obtain ⟨K, k1, k2, hK, hf⟩ := field_of_range x g1 g2
      have he : expo (x : EReal) = (((K : ℤ) - 126 : ℤ) : ℝ) := by
        unfold expo
        rw [cmp_olt, cmp_oge, zero_eq, one_eq, decide_eq_false (show ¬ (x : EReal) < (FloatOps.ofBits .f32 0x00800000#32 : Ideal .f32) from not_lt.mpr h1),
          decide_eq_false (show ¬ (FloatOps.ofBits .f32 0x7B800000#32 : Ideal .f32) ≤ (x : EReal) from not_le.mpr h2)]
        show Ideal.liftRound Int.floor (Ideal.log (x : EReal) * (((Real.log 2)⁻¹ : ℝ) : EReal)) + ((1 : ℝ) : EReal) = _
        rw [Ideal.log_coe, if_neg (not_le.mpr hx), ← EReal.coe_mul]
        show (((⌊lg x⌋ : ℤ) : ℝ) : EReal) + ((1 : ℝ) : EReal) = _
        rw [← hK, ← EReal.coe_add]; congr 1; push_cast; ring
      have e1 : IntOp.addi (word K) 8388608#32 = word (K + 1) := by
        have h : ∀ k : Fin 247, IntOp.addi (word k.val) 8388608#32 = word (k.val + 1) := by decide +kernel
        exact h ⟨K, by omega⟩
      have e2 : IntOp.subi 2122317824#32 (word K) = word (253 - K) := by
        have h : ∀ k : Fin 247, IntOp.subi 2122317824#32 (word k.val) = word (253 - k.val) := by decide +kernel
        exact h ⟨K, by omega⟩
      unfold scale recip
      rw [hf, he, e1, e2, zero_eq]
      constructor
      · refine (val_eq (K + 1) (by omega) (by omega)).trans ?_
        show _ = Ideal.exp2 ((((K : ℤ) - 126 : ℤ) : ℝ) : EReal)
        rw [Ideal.exp2_coe]
        congr 1
        rw [show Real.rpow 2 (((K : ℤ) - 126 : ℤ) : ℝ) = (2 : ℝ) ^ (((K : ℤ) - 126 : ℤ) : ℝ) from rfl, Real.rpow_intCast]
        congr 1; push_cast; omega
      · refine (val_eq (253 - K) (by omega) (by omega)).trans ?_
        have hn : (FloatOps.subf (0 : EReal) ((((K : ℤ) - 126 : ℤ) : ℝ) : EReal) : Ideal .f32) = (((126 - (K : ℤ) : ℤ) : ℝ) : EReal) := by
          show (0 : EReal) - _ = _
          rw [zero_sub, ← EReal.coe_neg]; congr 1; push_cast; ring
        rw [hn]
        show _ = Ideal.exp2 _
        rw [Ideal.exp2_coe]
        congr 1
        rw [show Real.rpow 2 ((126 - (K : ℤ) : ℤ) : ℝ) = (2 : ℝ) ^ ((126 - (K : ℤ) : ℤ) : ℝ) from rfl, Real.rpow_intCast]
        congr 1; omega

end Cert.Proof.Exponent
-- ==== Proof.Block.lean ====
/-
  What one grid point leaves in its blocks, as functions of the blocks it reads: the two products and the gated product, the
  codes and the two scales of its two groups of columns.
-/
module

public import proofs.«01_k».proof.Proof.Widen
public import proofs.«01_k».proof.Proof.Exponent
public import Idealize.ShloMosaic.Lib.Pointwise.Reduce

@[expose] public section

set_option maxRecDepth 16384
set_option maxHeartbeats 100000

noncomputable section

namespace Cert.Proof.Block

open Cert.KernelIdeal Cert.KernelIdeal.Gen Idealize.ShloMosaic Idealize.ShloMosaic.TcCoe Idealize.SL.Sem Cert.Proof.Widen Cert.Proof.Exponent

/-- The greatest magnitude of 128 numbers. -/
def amax (v : Fin 128 → EReal) : EReal := Finset.univ.fold max (FloatOps.ofBits (F := Ideal) .f32 0xFF800000#32) fun k => max (v k) (-(v k))

/-- The ratio whose power of two is the scale of a group of 128: its greatest magnitude times the reciprocal of 448. -/
def ratio (v : Fin 128 → EReal) : EReal := amax v * FloatOps.ofBits (F := Ideal) .f32 0x3B124925#32

theorem amax_nonneg (v : Fin 128 → EReal) : 0 ≤ amax v := by
  unfold amax
  rw [Finset.le_fold_max]
  refine Or.inr ⟨0, Finset.mem_univ _, ?_⟩
  show (0 : EReal) ≤ max (v 0) (-(v 0))
  rcases le_total 0 (v 0) with h | h
  · exact h.trans (le_max_left _ _)
  · exact (EReal.neg_nonneg.mpr h).trans (le_max_right _ _)

theorem const_nonneg : (0 : EReal) ≤ FloatOps.ofBits (F := Ideal) .f32 0x3B124925#32 := by
  show (0 : EReal) ≤ Ideal.ofBits .f32 0x3B124925#32
  simp [Ideal.ofBits, Ideal.ieee, -EReal.coe_mul]

theorem ratio_nonneg (v : Fin 128 → EReal) : 0 ≤ ratio v := EReal.mul_nonneg (amax_nonneg v) const_nonneg

theorem abs_ratio (v : Fin 128 → EReal) : (FloatOps.absf (F := Ideal) (φ := .f32) (ratio v)) = ratio v := by
  show max (ratio v) (-(ratio v)) = ratio v
  exact max_eq_left ((EReal.neg_le_neg_iff.mpr (ratio_nonneg v)).trans (by simpa using ratio_nonneg v))

/-- The 128 columns of group `q` of row `p` of a block. -/
def group (h : FVec Ideal S1024x256 .f32) (p : Fin 1024) (q : Fin 2) : Fin 128 → EReal :=
  fun k => h (ix2 p ⟨128 * q.val + k.val, by show _ < 256; omega⟩)

/-- One code: the value times the reciprocal of its group's scale, clipped to the format's range. -/
def code (v r : EReal) : EReal :=
  min (FloatOps.ofBits (F := Ideal) .f32 0x43E00000#32) (max (FloatOps.ofBits (F := Ideal) .f32 0xC3E00000#32) (v * recip r))

/-- One comparison of the kernel's search, on a column of rows. -/
def vprobe (r : FVec Ideal S1024x1 .f32) (w : BitVec 32) (f : IVec S1024x1 32) : IVec S1024x1 32 :=
  select (cmpf .oge r (bitcastToFloat (F := Ideal) .f32 (addi f (broadcast S1024x1 w)))) (addi f (broadcast S1024x1 w)) f

/-- The replacement of a field out of range, on a column of rows. -/
def vadjust (r : FVec Ideal S1024x1 .f32) (f : IVec S1024x1 32) : IVec S1024x1 32 :=
  let g := select (cmpf .oge r (broadcast S1024x1 (Scalar.ofBits (F := Ideal) .f32 0x7B800000#32))) (broadcast S1024x1 2139095040#32) f
  select (ori (cmpi .eq g (broadcast S1024x1 0#32)) (cmpi .eq g (broadcast S1024x1 2139095040#32))) (broadcast S1024x1 1056964608#32) g

/-- The whole field, on a column of rows. -/
def vfield (r : FVec Ideal S1024x1 .f32) : IVec S1024x1 32 :=
  vadjust r (vprobe r 8388608#32 (vprobe r 16777216#32 (vprobe r 33554432#32 (vprobe r 67108864#32 (vprobe r 134217728#32 (vprobe r 268435456#32
    (vprobe r 536870912#32 (vprobe r 1073741824#32 (broadcast S1024x1 0#32)))))))))

theorem vprobe_apply (r : FVec Ideal S1024x1 .f32) (w : BitVec 32) (f : IVec S1024x1 32) (k : S1024x1.Idx) :
    vprobe r w f k = probe (r k) w (f k) := rfl

theorem broadcast_apply (w : BitVec 32) (k : S1024x1.Idx) : broadcast S1024x1 w k = w := rfl

theorem vadjust_apply (r : FVec Ideal S1024x1 .f32) (f : IVec S1024x1 32) (k : S1024x1.Idx) :
    vadjust r f k = adjust (r k) (f k) := rfl

theorem vfield_apply (r : FVec Ideal S1024x1 .f32) (k : S1024x1.Idx) : vfield r k = field (r k) := by
  unfold vfield field search
  rw [vadjust_apply, vprobe_apply, vprobe_apply, vprobe_apply, vprobe_apply, vprobe_apply, vprobe_apply, vprobe_apply, vprobe_apply,
    broadcast_apply]

theorem pay256_search (r : FVec Ideal S1024x1 .f32) (f : IVec S1024x1 32) : k0_pay256 r f
    = vadjust r (vprobe r 8388608#32 (vprobe r 16777216#32 (vprobe r 33554432#32 (vprobe r 67108864#32 (vprobe r 134217728#32 (vprobe r 268435456#32 f)))))) := rfl

theorem pay255_search (a : Vec Ideal S1024x5120 .bf16) (wg wu : Vec Ideal S5120x256 .bf16) : k0_pay255 a wg wu
    = vprobe (k0_pay254 a wg wu) 536870912#32 (vprobe (k0_pay254 a wg wu) 1073741824#32 (broadcast S1024x1 0#32)) := by
  unfold k0_pay255
  generalize k0_pay254 a wg wu = r
  rfl

theorem pay263_search (h : FVec Ideal S1024x256 .f32) : k0_pay263 h
    = vprobe (k0_pay262 h) 134217728#32 (vprobe (k0_pay262 h) 268435456#32 (vprobe (k0_pay262 h) 536870912#32
      (vprobe (k0_pay262 h) 1073741824#32 (broadcast S1024x1 0#32)))) := by
  unfold k0_pay263
  generalize k0_pay262 h = r
  rfl

theorem pay266_search (r : FVec Ideal S1024x1 .f32) (f : IVec S1024x1 32) :
    k0_pay266 r f (addi f (broadcast S1024x1 67108864#32)) (cmpf .oge r (bitcastToFloat (F := Ideal) .f32 (addi f (broadcast S1024x1 67108864#32))))
      = vadjust r (vprobe r 8388608#32 (vprobe r 16777216#32 (vprobe r 33554432#32 (vprobe r 67108864#32 f)))) := rfl

/-- The kernel's field of each group is that field of its ratios. -/
theorem pay256_eq (a : Vec Ideal S1024x5120 .bf16) (wg wu : Vec Ideal S5120x256 .bf16) :
    k0_pay256 (k0_pay254 a wg wu) (k0_pay255 a wg wu) = vfield (k0_pay254 a wg wu) := by
  rw [pay256_search, pay255_search, vfield]

theorem pay266_eq (h : FVec Ideal S1024x256 .f32) :
    k0_pay266 (k0_pay262 h) (k0_pay263 h) (k0_pay264 h) (k0_pay265 h) = vfield (k0_pay262 h) := by
  unfold k0_pay264 k0_pay265 k0_pay264
  rw [pay263_search]
  exact (pay266_search _ _)

/-- The kernel's ratio of each group, at a row. -/
theorem pay254_apply (a : Vec Ideal S1024x5120 .bf16) (wg wu : Vec Ideal S5120x256 .bf16) (k : S1024x1.Idx) :
    k0_pay254 (F := Ideal) a wg wu k = ratio (group (k0_pay251 a wg wu) (k 0) 0) := by
  rw [← abs_ratio]
  unfold k0_pay254 k0_pay253
  generalize k0_pay251 a wg wu = h
  simp only [pointwise]
  refine congrArg (fun q : Fin 128 → EReal => FloatOps.absf (F := Ideal) (φ := .f32) (ratio q)) (funext fun k' => congrArg h (funext fun b => Fin.ext ?_))
  match b with
  | ⟨0, _⟩ => exact Nat.zero_add _
  | ⟨1, _⟩ => rfl

theorem pay262_apply (h : FVec Ideal S1024x256 .f32) (k : S1024x1.Idx) : k0_pay262 h k = ratio (group h (k 0) 1) := by
  rw [← abs_ratio]
  unfold k0_pay262 k0_pay261
  simp only [pointwise]
  refine congrArg (fun q : Fin 128 → EReal => FloatOps.absf (F := Ideal) (φ := .f32) (ratio q)) (funext fun k' => congrArg h (funext fun b => Fin.ext ?_))
  match b with
  | ⟨0, _⟩ => exact Nat.zero_add _
  | ⟨1, _⟩ => rfl

/-- A column of row values spread along a group, at an element. -/
theorem spread_apply (g : FVec Ideal S1024x1 .f32) (h) (x : S1024x128.Idx) : broadcastTo S1024x128 g h x = g (rowOf x) :=
  broadcastTo_apply _ _ _ _ (by intro b; match b with | ⟨0, _⟩ => rfl | ⟨1, _⟩ => rfl)

/-- Multiply a group by its rows' reciprocals and clip to the range of the 8-bit type, at an element. -/
theorem clip_apply (v : FVec Ideal S1024x128 .f32) (f : IVec S1024x1 32) (h) (hb) (x : S1024x128.Idx) :
    truncf .fp8e4m3 (minimumf (broadcast S1024x128 (FloatOps.ofBits .f32 0x43E00000#32)) (maximumf (broadcast S1024x128 (FloatOps.ofBits .f32 0xC3E00000#32))
        (mulf v (broadcastTo S1024x128 (bitcastToFloat .f32 (subi (broadcast S1024x1 2122317824#32) f)) h)))) hb x
      = min (FloatOps.ofBits (F := Ideal) .f32 0x43E00000#32) (max (FloatOps.ofBits (F := Ideal) .f32 0xC3E00000#32)
          (v x * FloatOps.ofBits (F := Ideal) .f32 (IntOp.subi 2122317824#32 (f (rowOf x))))) :=
  congrArg (fun w : EReal => min (FloatOps.ofBits (F := Ideal) .f32 0x43E00000#32) (max (FloatOps.ofBits (F := Ideal) .f32 0xC3E00000#32) (v x * w)))
    (spread_apply (bitcastToFloat .f32 (subi (broadcast S1024x1 2122317824#32) f)) h x)

/-- The codes of the first group. -/
theorem pay259_apply (a : Vec Ideal S1024x5120 .bf16) (wg wu : Vec Ideal S5120x256 .bf16) (x : S1024x128.Idx) (y : S1024x256.Idx)
    (h0 : (y 0).val = (x 0).val) (h1 : (y 1).val = (x 1).val) :
    k0_pay259 (k0_pay253 a wg wu) (k0_pay258 (k0_pay254 a wg wu) (k0_pay255 a wg wu)) x
      = code (k0_pay251 a wg wu y) (ratio (group (k0_pay251 a wg wu) (y 0) 0)) := by
  have hk : k0_pay254 a wg wu (rowOf x) = ratio (group (k0_pay251 a wg wu) (y 0) 0) := by
    rw [pay254_apply]; exact congrArg (fun p => ratio (group (k0_pay251 a wg wu) p 0)) (Fin.ext h0.symm)
  have hf : k0_pay256 (k0_pay254 a wg wu) (k0_pay255 a wg wu) (rowOf x) = field (ratio (group (k0_pay251 a wg wu) (y 0) 0)) := by
    rw [pay256_eq, vfield_apply, hk]
  unfold code recip
  rw [← hf]
  unfold k0_pay259 k0_pay258 k0_pay253
  generalize k0_pay256 (k0_pay254 a wg wu) (k0_pay255 a wg wu) = f
  generalize k0_pay251 a wg wu = h
  have e1 : extractStridedSlice S1024x128 ![0, 0] h slices_S1024x256_o0_0_S1024x128 x = h y := extractStridedSlice_apply _ _ _ _ _ (by
    intro b; match b with
    | ⟨0, _⟩ => exact h0.trans (Nat.zero_add _).symm
    | ⟨1, _⟩ => exact h1.trans (Nat.zero_add _).symm)
  rw [← e1]
  exact clip_apply _ f _ _ x

/-- The codes of the second group. -/
theorem pay268_apply (h : FVec Ideal S1024x256 .f32) (x : S1024x128.Idx) (y : S1024x256.Idx)
    (h0 : (y 0).val = (x 0).val) (h1 : (y 1).val = 128 + (x 1).val) :
    k0_pay268 (k0_pay261 h) (k0_pay262 h) (k0_pay263 h) (k0_pay264 h) (k0_pay265 h) x = code (h y) (ratio (group h (y 0) 1)) := by
  have hk : k0_pay262 h (rowOf x) = ratio (group h (y 0) 1) := by
    rw [pay262_apply]; exact congrArg (fun p => ratio (group h p 1)) (Fin.ext h0.symm)
  have hf : k0_pay266 (k0_pay262 h) (k0_pay263 h) (k0_pay264 h) (k0_pay265 h) (rowOf x) = field (ratio (group h (y 0) 1)) := by
    rw [pay266_eq, vfield_apply, hk]
  unfold code recip
  rw [← hf]
  unfold k0_pay268
  generalize k0_pay266 (k0_pay262 h) (k0_pay263 h) (k0_pay264 h) (k0_pay265 h) = f
  have e1 : k0_pay261 h x = h y := by
    unfold k0_pay261
    exact extractStridedSlice_apply _ _ _ _ _ (by
    intro b; match b with
    | ⟨0, _⟩ => exact h0.trans (Nat.zero_add _).symm
    | ⟨1, _⟩ => exact h1)
  rw [← e1]
  exact clip_apply _ f _ _ x

/-- The scales of the two groups, at a row. -/
theorem pay257_apply (a : Vec Ideal S1024x5120 .bf16) (wg wu : Vec Ideal S5120x256 .bf16) (k : S1024x1.Idx) :
    k0_pay257 (k0_pay254 a wg wu) (k0_pay255 a wg wu) k = scale (ratio (group (k0_pay251 a wg wu) (k 0) 0)) := by
  rw [← pay254_apply, scale, ← vfield_apply, ← pay256_eq]
  unfold k0_pay257
  generalize k0_pay256 (k0_pay254 a wg wu) (k0_pay255 a wg wu) = f
  rfl

theorem pay267_apply (h : FVec Ideal S1024x256 .f32) (k : S1024x1.Idx) :
    k0_pay267 (k0_pay262 h) (k0_pay263 h) (k0_pay264 h) (k0_pay265 h) k = scale (ratio (group h (k 0) 1)) := by
  rw [← pay262_apply, scale, ← vfield_apply, ← pay266_eq]
  unfold k0_pay267
  generalize k0_pay266 (k0_pay262 h) (k0_pay263 h) (k0_pay264 h) (k0_pay265 h) = f
  rfl

/-- The lane of a row's scales that a column of groups is written to: the kernel compares 32-bit words, equal exactly when the
    numbers are. -/
theorem lane_eq (n : Fin 10) (q : Fin 2) (l : Fin 20) :
    IntOp.cmpi .eq (BitVec.ofNat 32 l.val) (Scalar.addi (Scalar.muli (BitVec.ofNat 32 n.val) 2#32) (BitVec.ofNat 32 q.val))
      = BitVec.ofBool (decide (l.val = 2 * n.val + q.val)) := by
  have h : ∀ (n : Fin 10) (q : Fin 2) (l : Fin 20),
      IntOp.cmpi .eq (BitVec.ofNat 32 l.val) (Scalar.addi (Scalar.muli (BitVec.ofNat 32 n.val) 2#32) (BitVec.ofNat 32 q.val))
        = BitVec.ofBool (decide (l.val = 2 * n.val + q.val)) := by decide +kernel
  exact h n q l

/-- The row of a scale, as an index of a column of row scales. -/
def laneRow (y : S1024x20.Idx) : S1024x1.Idx := fun a => match a with
  | ⟨0, _⟩ => ⟨(y 0).val, (y 0).isLt⟩
  | ⟨1, _⟩ => ⟨0, by show 0 < 1; omega⟩

theorem lane_spread (g : FVec Ideal S1024x1 .f32) (h) (y : S1024x20.Idx) : broadcastTo S1024x20 g h y = g (laneRow y) :=
  broadcastTo_apply _ _ _ _ (by intro b; match b with | ⟨0, _⟩ => rfl | ⟨1, _⟩ => rfl)

/-- A row's scales after a point: its two lanes replaced. -/
def lanes (h : FVec Ideal S1024x256 .f32) (i : grid0.Coords) (old : FVec Ideal S1024x20 .f32) : FVec Ideal S1024x20 .f32 := fun y =>
  if (y 1).val = 2 * (i 1).val + 1 then scale (ratio (group h (y 0) 1))
  else if (y 1).val = 2 * (i 1).val then scale (ratio (group h (y 0) 0)) else old y

/-- The codes of a block. -/
def codes (h : FVec Ideal S1024x256 .f32) : Vec Ideal S1024x256 .fp8e4m3 := fun y =>
  code (h y) (ratio (group h (y 0) ⟨(y 1).val / 128, by have h : (y 1).val < 256 := (y 1).isLt; omega⟩))

theorem select_lane (n : Fin 10) (q : Fin 2) (l : Fin 20) (a b : Ideal .f32) :
    Scalar.select (IntOp.cmpi .eq (BitVec.ofNat 32 l.val) (Scalar.addi (Scalar.muli (BitVec.ofNat 32 n.val) 2#32) (BitVec.ofNat 32 q.val))) a b
      = if l.val = 2 * n.val + q.val then a else b := by
  rw [lane_eq]
  by_cases h : l.val = 2 * n.val + q.val
  · rw [decide_eq_true h, if_pos h]; rfl
  · rw [decide_eq_false h, if_neg h]; rfl

theorem lanes_apply (a : Vec Ideal S1024x5120 .bf16) (wg wu : Vec Ideal S5120x256 .bf16) (i : grid0.Coords) (old : FVec Ideal S1024x20 .f32) (hi) :
    k0_pay1 (k0_pay260 (Scalar.muli (BitVec.ofNat 32 (i 1).val) 2#32) (iota .tc S1024x20 32 [1] hi) (k0_pay252 old)
        (k0_pay257 (k0_pay254 a wg wu) (k0_pay255 a wg wu)))
      (k0_pay267 (k0_pay262 (k0_pay251 a wg wu)) (k0_pay263 (k0_pay251 a wg wu)) (k0_pay264 (k0_pay251 a wg wu)) (k0_pay265 (k0_pay251 a wg wu)))
      (k0_pay269 (Scalar.muli (BitVec.ofNat 32 (i 1).val) 2#32) (iota .tc S1024x20 32 [1] hi))
      = lanes (k0_pay251 a wg wu) i old := by
  funext y
  have h0 := pay257_apply a wg wu (laneRow y)
  have h1 := pay267_apply (k0_pay251 a wg wu) (laneRow y)
  generalize k0_pay257 (k0_pay254 a wg wu) (k0_pay255 a wg wu) = s0 at h0 ⊢
  generalize k0_pay267 (k0_pay262 (k0_pay251 a wg wu)) (k0_pay263 (k0_pay251 a wg wu)) (k0_pay264 (k0_pay251 a wg wu)) (k0_pay265 (k0_pay251 a wg wu)) = s1 at h1 ⊢
  generalize k0_pay251 a wg wu = h at h0 h1 ⊢
  unfold k0_pay1 k0_pay260 k0_pay269 k0_pay252
  rw [shapeCast_self, shapeCast_self, shapeCast_self]
  have hl : ∀ q : Fin 2, IntOp.cmpi .eq (iota .tc S1024x20 32 [1] hi y) (Scalar.addi (Scalar.muli (BitVec.ofNat 32 (i 1).val) 2#32) (BitVec.ofNat 32 q.val))
      = IntOp.cmpi .eq (BitVec.ofNat 32 (y 1).val) (Scalar.addi (Scalar.muli (BitVec.ofNat 32 (i 1).val) 2#32) (BitVec.ofNat 32 q.val)) := fun q => by
    rw [iota_apply]; show IntOp.cmpi .eq (BitVec.ofNat 32 (0 * 20 + (y 1).val)) _ = _; rw [Nat.zero_mul, Nat.zero_add]
  show Scalar.select (IntOp.cmpi .eq (iota .tc S1024x20 32 [1] hi y) (Scalar.addi (Scalar.muli (BitVec.ofNat 32 (i 1).val) 2#32) 1#32))
    (broadcastTo S1024x20 s1 _ y) (Scalar.select (IntOp.cmpi .eq (iota .tc S1024x20 32 [1] hi y) (Scalar.addi (Scalar.muli (BitVec.ofNat 32 (i 1).val) 2#32) 0#32))
      (broadcastTo S1024x20 s0 _ y) (old y)) = _
  rw [lane_spread, lane_spread, h0, h1]
  have k1 := fun a b => (congrArg (fun w => Scalar.select w a b) (hl 1)).trans (select_lane (i 1) 1 (y 1) a b)
  have k0 := fun a b => (congrArg (fun w => Scalar.select w a b) (hl 0)).trans (select_lane (i 1) 0 (y 1) a b)
  exact (k1 (scale (ratio (group h (y 0) 1))) _).trans
    (congrArg (fun w : Ideal .f32 => if (y 1).val = 2 * (i 1).val + 1 then scale (ratio (group h (y 0) 1)) else w) (k0 (scale (ratio (group h (y 0) 0))) (old y)))

end Cert.Proof.Block
-- ==== Proof.Outs.lean ====
module

public import proofs.«01_k».proof.Proof.Block

@[expose] public section

set_option maxRecDepth 16384
set_option maxHeartbeats 2000000

noncomputable section

namespace Cert.Proof.Outs

open Cert.KernelIdeal Cert.KernelIdeal.Gen Idealize.ShloMosaic Idealize.ShloMosaic.TcCoe Idealize.SL.Sem Cert.Proof.Widen Cert.Proof.Exponent Cert.Proof.Block

variable (c : Dev nD) (i : grid0.Coords)
  (arg2 : Memref sig .tc .smem S40x20 .f32) (harg2 : arg2.IsWhole) (arg3 : Memref sig .tc .smem S40x20 .f32) (harg3 : arg3.IsWhole)
  (arg4 : Memref sig .tc .vmem S1024x5120 .fp8e4m3) (harg4 : arg4.IsWhole) (arg5 : Memref sig .tc .vmem S1024x40 .f32) (harg5 : arg5.IsWhole)
  (arg6 : Memref sig .tc .vmem S5120x256 .fp8e4m3) (harg6 : arg6.IsWhole) (arg7 : Memref sig .tc .vmem S5120x256 .fp8e4m3) (harg7 : arg7.IsWhole)
  (arg8 : Memref sig .tc .vmem S1024x256 .fp8e4m3) (harg8 : arg8.IsWhole) (arg9 : Memref sig .tc .vmem S1024x20 .f32) (harg9 : arg9.IsWhole)
  (arg10 : Memref sig .tc .vmem S1024x5120 .bf16) (harg10 : arg10.IsWhole) (arg11 : Memref sig .tc .vmem S5120x256 .bf16) (harg11 : arg11.IsWhole)
  (arg12 : Memref sig .tc .vmem S5120x256 .bf16) (harg12 : arg12.IsWhole)
  (x0 x1 : Vec Ideal S40x20 .f32) (x2 : Vec Ideal S1024x5120 .fp8e4m3) (x3 : Vec Ideal S1024x40 .f32)
  (x4 x5 : Vec Ideal S5120x256 .fp8e4m3) (xo7 : Vec Ideal S1024x20 .f32) (xs0 : Vec Ideal S1024x5120 .bf16)

theorem off0 : (![0, 0] : Fin 2 → Nat) = fun _ => 0 := by decide

/-- A whole array read through a rectangle that covers it. -/
theorem whole_weights (w : Vec Ideal S5120x256 .bf16) :
    (fun j => w ((Rect.unit (s := S5120x256) ![0, 0] ![5120, 256] inb_S5120x256_S5120x256_0_0).idx j)) = w :=
  View.ld_unit_zero (Val := Elt Ideal) (S := S5120x256) (e := .bf16) off0 inb_S5120x256_S5120x256_0_0 w

theorem whole_acts (w : Vec Ideal S1024x5120 .bf16) :
    (fun j => w ((Rect.unit (s := S1024x5120) ![0, 0] ![1024, 5120] inb_S1024x5120_S1024x5120_0_0).idx j)) = w :=
  View.ld_unit_zero (Val := Elt Ideal) (S := S1024x5120) (e := .bf16) off0 inb_S1024x5120_S1024x5120_0_0 w

/-- The block of the hidden product at a point: its activations against its widened weight columns. -/
def hidden (a : Vec Ideal S1024x5120 .bf16) : FVec Ideal S1024x256 .f32 := k0_pay251 a (wide x0 x4 i) (wide x1 x5 i)

theorem out_A_6 (hc0 : cond0_0 i) :
    out0_A_6 (F := Ideal) c i arg2 harg2 arg3 harg3 arg4 harg4 arg5 harg5 arg6 harg6 arg7 harg7 arg8 harg8 arg9 harg9 arg10 harg10 arg11 harg11 arg12 harg12 hc0 x0 x1 x2 x3 x4 x5 = codes (hidden i x0 x1 x4 x5 (wideX x2 x3)) := by
  funext y
  obtain ⟨hg, hu⟩ := weights_A c i arg2 harg2 arg3 harg3 arg4 harg4 arg5 harg5 arg6 harg6 arg7 harg7 arg8 harg8 arg9 harg9 arg10 harg10 arg11 harg11 arg12 harg12 x0 x1 x2 x3 x4 x5 hc0
  have ha := acts_A c i arg2 harg2 arg3 harg3 arg4 harg4 arg5 harg5 arg6 harg6 arg7 harg7 arg8 harg8 arg9 harg9 arg10 harg10 arg11 harg11 arg12 harg12 x0 x1 x2 x3 x4 x5 hc0
  frame_out at hg
  frame_out at hu
  frame_out at ha
  frame_out
  simp only [View.readCov_eq_canon', hg, hu, ha]
  clear hg hu ha
  rw [whole_acts (wideX x2 x3), whole_weights (wide x0 x4 i), whole_weights (wide x1 x5 i)]
  canon_tiles x h
  · refine (pay268_apply (k0_pay251 (wideX x2 x3) (wide x0 x4 i) (wide x1 x5 i)) x y (by assumption) (by assumption)).trans ?_
    exact congrArg (fun q => code _ (ratio (group _ (y 0) q))) (Fin.ext (by show 1 = (y 1).val / 128; omega))
  · refine (pay259_apply (wideX x2 x3) (wide x0 x4 i) (wide x1 x5 i) x y (by assumption) (by assumption)).trans ?_
    exact congrArg (fun q => code _ (ratio (group _ (y 0) q))) (Fin.ext (by show 0 = (y 1).val / 128; omega))

theorem out_A_7 (hc0 : cond0_0 i) :
    out0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5 = lanes (hidden i x0 x1 x4 x5 (wideX x2 x3)) i k0_pay2 := by
  obtain ⟨hg, hu⟩ := weights_A c i arg2 harg2 arg3 harg3 arg4 harg4 arg5 harg5 arg6 harg6 arg7 harg7 arg8 harg8 arg9 harg9 arg10 harg10 arg11 harg11 arg12 harg12 x0 x1 x2 x3 x4 x5 hc0
  have ha := acts_A c i arg2 harg2 arg3 harg3 arg4 harg4 arg5 harg5 arg6 harg6 arg7 harg7 arg8 harg8 arg9 harg9 arg10 harg10 arg11 harg11 arg12 harg12 x0 x1 x2 x3 x4 x5 hc0
  frame_out at hg
  frame_out at hu
  frame_out at ha
  frame_out
  simp only [View.readCov_eq_canon', hg, hu, ha]
  clear hg hu ha
  rw [whole_acts (wideX x2 x3), whole_weights (wide x0 x4 i), whole_weights (wide x1 x5 i)]
  exact lanes_apply (wideX x2 x3) (wide x0 x4 i) (wide x1 x5 i) i k0_pay2 _

theorem sout_A (hc0 : cond0_0 i) :
    sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 = wideX x2 x3 := by
  have ha := acts_A c i arg2 harg2 arg3 harg3 arg4 harg4 arg5 harg5 arg6 harg6 arg7 harg7 arg8 harg8 arg9 harg9 arg10 harg10 arg11 harg11 arg12 harg12 x0 x1 x2 x3 x4 x5 hc0
  frame_out at ha
  frame_out
  exact ha

theorem out_B_6 (hc0 : ¬cond0_0 i) :
    out0_B_6 (F := Ideal) c i arg2 harg2 arg3 harg3 arg4 harg4 arg5 harg5 arg6 harg6 arg7 harg7 arg8 harg8 arg9 harg9 arg10 harg10 arg11 harg11 arg12 harg12 hc0 x0 x1 x2 x3 x4 x5 xo7 xs0 = codes (hidden i x0 x1 x4 x5 xs0) := by
  funext y
  obtain ⟨hg, hu⟩ := weights_B c i arg2 harg2 arg3 harg3 arg4 harg4 arg5 harg5 arg6 harg6 arg7 harg7 arg8 harg8 arg9 harg9 arg10 harg10 arg11 harg11 arg12 harg12 x0 x1 x2 x3 x4 x5 xo7 xs0 hc0
  frame_out at hg
  frame_out at hu
  frame_out
  simp only [View.readCov_eq_canon', hg, hu]
  clear hg hu
  rw [whole_weights (wide x0 x4 i), whole_weights (wide x1 x5 i)]
  canon_tiles x h
  · refine (pay268_apply (k0_pay251 xs0 (wide x0 x4 i) (wide x1 x5 i)) x y (by assumption) (by assumption)).trans ?_
    exact congrArg (fun q => code _ (ratio (group _ (y 0) q))) (Fin.ext (by show 1 = (y 1).val / 128; omega))
  · refine (pay259_apply xs0 (wide x0 x4 i) (wide x1 x5 i) x y (by assumption) (by assumption)).trans ?_
    exact congrArg (fun q => code _ (ratio (group _ (y 0) q))) (Fin.ext (by show 0 = (y 1).val / 128; omega))

theorem out_B_7 (hc0 : ¬cond0_0 i) :
    out0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 xo7 xs0 = lanes (hidden i x0 x1 x4 x5 xs0) i xo7 := by
  obtain ⟨hg, hu⟩ := weights_B c i arg2 harg2 arg3 harg3 arg4 harg4 arg5 harg5 arg6 harg6 arg7 harg7 arg8 harg8 arg9 harg9 arg10 harg10 arg11 harg11 arg12 harg12 x0 x1 x2 x3 x4 x5 xo7 xs0 hc0
  frame_out at hg
  frame_out at hu
  frame_out
  simp only [View.readCov_eq_canon', hg, hu]
  clear hg hu
  rw [whole_weights (wide x0 x4 i), whole_weights (wide x1 x5 i)]
  exact lanes_apply xs0 (wide x0 x4 i) (wide x1 x5 i) i xo7 _

theorem sout_B (hc0 : ¬cond0_0 i) :
    sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 xo7 xs0 = xs0 := by
  rfl

end Cert.Proof.Outs
-- ==== Proof.Fold.lean ====
module

public import proofs.«01_k».proof.Proof.Outs
public import proofs.«01_k».proof.Proof.Gen.KernelIdeal.Value

@[expose] public section

set_option maxRecDepth 16384
set_option maxHeartbeats 2000000

noncomputable section

namespace Cert.Proof.Fold

open Cert.KernelIdeal Cert.KernelIdeal.Gen Idealize.ShloMosaic Idealize.ShloMosaic.TcCoe Idealize.SL.Sem Cert.Proof.Widen Cert.Proof.Exponent Cert.Proof.Block Cert.Proof.Outs

variable (m : (ℓ : Loc nD τ sig) → Buf (Elt Ideal) ℓ)

/-- The first point of a point's block of rows. -/
def start (t : Fin cfg0.N) : Fin cfg0.N := ⟨10 * (t.val / 10), by have := t.isLt; omega⟩

/-- The widened activations of a point's block of rows: those its first point leaves in the scratch. -/
def acts (c : Dev nD) (t : Fin cfg0.N) : Vec Ideal S1024x5120 .bf16 := wideX (iblk m c 2 (start t)) (iblk m c 3 (start t))

/-- The block of the hidden product at a point. -/
def block (c : Dev nD) (t : Fin cfg0.N) : FVec Ideal S1024x256 .f32 :=
  hidden (grid0.coords t) (iblk m c 0 t) (iblk m c 1 t) (iblk m c 4 t) (iblk m c 5 t) (acts m c t)

theorem coord_one : ∀ t : Fin cfg0.N, (grid0.coords t 1).val = t.val % 10 := (by decide +kernel : ∀ t : Fin grid0.N, _)

theorem start_eq {s t : Fin cfg0.N} (h : s.val / 10 = t.val / 10) : start s = start t := Fin.ext (by show 10 * _ = 10 * _; rw [h])

/-- The point whose columns hold a group, in the same block of rows. -/
def owner (t : Fin cfg0.N) (l : Fin 20) : Fin cfg0.N :=
  ⟨10 * (t.val / 10) + l.val / 2, by have h := t.isLt; have hN : cfg0.N = 60 := N_0; have := l.isLt; omega⟩

/-- A row's scale for one group, as the point that holds the group computes it. -/
def laneScale (c : Dev nD) (t : Fin cfg0.N) (y : S1024x20.Idx) : EReal :=
  scale (ratio (group (block m c (owner t (y 1))) (y 0) ⟨(y 1).val % 2, Nat.mod_lt _ (by decide)⟩))

theorem laneScale_at (c : Dev nD) (t : Fin cfg0.N) (y : S1024x20.Idx) (q : Fin 2) (h : (y 1).val = 2 * (t.val % 10) + q.val) :
    scale (ratio (group (block m c t) (y 0) q)) = laneScale m c t y := by
  have hq := q.isLt
  have ho : owner t (y 1) = t := Fin.ext (by show 10 * (t.val / 10) + (y 1).val / 2 = t.val; omega)
  have hl : (⟨(y 1).val % 2, Nat.mod_lt _ (by decide)⟩ : Fin 2) = q := Fin.ext (by show (y 1).val % 2 = q.val; omega)
  unfold laneScale
  rw [ho, hl]

theorem lanes_at (c : Dev nD) (t : Fin cfg0.N) (old : FVec Ideal S1024x20 .f32)
    (ho : ∀ y, (y 1).val < 2 * (t.val % 10) → old y = laneScale m c t y) (y : S1024x20.Idx) (hy : (y 1).val < 2 * (t.val % 10 + 1)) :
    lanes (block m c t) (grid0.coords t) old y = laneScale m c t y := by
  unfold lanes
  rw [coord_one t]
  by_cases h1 : (y 1).val = 2 * (t.val % 10) + 1
  · rw [if_pos h1]; exact laneScale_at m c t y 1 h1
  · rw [if_neg h1]
    by_cases h2 : (y 1).val = 2 * (t.val % 10)
    · rw [if_pos h2]; exact laneScale_at m c t y 0 h2
    · rw [if_neg h2]; exact ho y (by omega)

theorem at_A (c : Dev nD) (t : Fin cfg0.N) (h0 : t.val % 10 = 0) :
    outsAt0 m c t.val t.isLt = (codes (block m c t), lanes (block m c t) (grid0.coords t) k0_pay2, acts m c t) := by
  have hs : start t = t := Fin.ext (by show 10 * (t.val / 10) = t.val; omega)
  rw [outsAt0_A m c t h0, out_A_6, out_A_7, sout_A]
  unfold block acts
  rw [hs]

theorem at_B (c : Dev nD) (t s : Fin cfg0.N) (h0 : ¬t.val % 10 = 0) (hs : s.val = t.val - 1)
    (ha : (outsAt0 m c s.val s.isLt).2.2 = acts m c t) :
    outsAt0 m c t.val t.isLt = (codes (block m c t), lanes (block m c t) (grid0.coords t) (outsAt0 m c s.val s.isLt).2.1, acts m c t) := by
  obtain ⟨s, hs'⟩ := s
  have hs : s = t.val - 1 := hs
  subst hs
  have ha : (outsAt0 m c (t.val - 1) hs').2.2 = acts m c t := ha
  rw [outsAt0_B m c t h0, out_B_6, out_B_7, sout_B, ha]
  unfold block
  rfl

/-- What every point leaves: its codes, the scales of the groups met so far in its block of rows, the widened activations. -/
theorem fold (c : Dev nD) : ∀ (n : ℕ) (t : Fin cfg0.N), t.val = n →
    (outsAt0 m c t.val t.isLt).1 = codes (block m c t)
      ∧ (∀ y : S1024x20.Idx, (y 1).val < 2 * (t.val % 10 + 1) → (outsAt0 m c t.val t.isLt).2.1 y = laneScale m c t y)
      ∧ (outsAt0 m c t.val t.isLt).2.2 = acts m c t := by
  intro n
  induction n with
  | zero =>
    intro t ht
    rw [at_A m c t (by rw [ht])]
    exact ⟨rfl, fun y hy => lanes_at m c t _ (fun y h => absurd h (by rw [ht]; exact Nat.not_lt_zero _)) y hy, rfl⟩
  | succ n ih =>
    intro t ht
    by_cases h0 : t.val % 10 = 0
    · rw [at_A m c t h0]
      exact ⟨rfl, fun y hy => lanes_at m c t _ (fun y h => absurd h (by rw [h0]; exact Nat.not_lt_zero _)) y hy, rfl⟩
    · obtain ⟨s, hs⟩ : ∃ s : Fin cfg0.N, s.val = n := ⟨⟨n, by have := t.isLt; omega⟩, rfl⟩
      obtain ⟨-, i7, is⟩ := ih s hs
      have hst : start s = start t := start_eq (by omega)
      have ha : (outsAt0 m c s.val s.isLt).2.2 = acts m c t := by rw [is]; unfold acts; rw [hst]
      rw [at_B m c t s h0 (by omega) ha]
      refine ⟨rfl, fun y hy => lanes_at m c t _ (fun y h => ?_) y hy, rfl⟩
      rw [i7 y (by omega)]
      unfold laneScale
      have ho : owner s (y 1) = owner t (y 1) := Fin.ext (by show 10 * (s.val / 10) + _ = 10 * (t.val / 10) + _; omega)
      rw [ho]

end Cert.Proof.Fold
-- ==== Proof.Spec.lean ====
module

public import proofs.«01_k».proof.Proof.Block

@[expose] public section

/- What both programs compute, from the six arrays: `X` the activations times their group scales (6144 rows, 5120 columns), `G` and
   `U` the two weights times their tile scales (5120 rows, 2560 columns), the gated product of the two matrix products, and of each
   group of 128 of its columns the codes and the scale. -/

noncomputable section

namespace Cert.Proof.Spec

open Idealize.ShloMosaic Cert.Proof.Exponent Cert.Proof.Block

/-- A product's entry. -/
def dot (X : Fin 6144 → Fin 5120 → EReal) (W : Fin 5120 → Fin 2560 → EReal) (R : Fin 6144) (C : Fin 2560) : EReal := ∑ k, X R k * W k C

/-- A number times its logistic, as the kernel spells it. -/
def silu (g : EReal) : EReal := Ideal.div g (1 + Ideal.exp (0 - g))

/-- The gated product. -/
def hid (X : Fin 6144 → Fin 5120 → EReal) (G U : Fin 5120 → Fin 2560 → EReal) (R : Fin 6144) (C : Fin 2560) : EReal :=
  silu (dot X G R C) * dot X U R C

/-- Row `R`'s group `q` of 128 columns. -/
def grp (H : Fin 6144 → Fin 2560 → EReal) (R : Fin 6144) (q : Fin 20) : Fin 128 → EReal :=
  fun k => H R ⟨128 * q.val + k.val, by have := q.isLt; have := k.isLt; omega⟩

/-- The group that holds a column. -/
def grpOf (C : Fin 2560) : Fin 20 := ⟨C.val / 128, by have := C.isLt; omega⟩

/-- The widened activations, row `R` being token `R % 3072` of sequence `R / 3072`. -/
def actv (x : (⟨3, ![2, 3072, 5120]⟩ : Shape).Idx → EReal) (s : (⟨3, ![2, 3072, 40]⟩ : Shape).Idx → EReal) (R : Fin 6144) (k : Fin 5120) : EReal :=
  x (ix3 ⟨R.val / 3072, by have := R.isLt; omega⟩ ⟨R.val % 3072, Nat.mod_lt _ (by decide)⟩ k)
    * s (ix3 ⟨R.val / 3072, by have := R.isLt; omega⟩ ⟨R.val % 3072, Nat.mod_lt _ (by decide)⟩ ⟨k.val / 128, by have := k.isLt; omega⟩)

/-- The widened weights. -/
def wt (w : (⟨2, ![5120, 2560]⟩ : Shape).Idx → EReal) (s : (⟨2, ![40, 20]⟩ : Shape).Idx → EReal) (k : Fin 5120) (C : Fin 2560) : EReal :=
  w (ix2 k C) * s (ix2 ⟨k.val / 128, by have := k.isLt; omega⟩ ⟨C.val / 128, by have := C.isLt; omega⟩)

/-- Both spellings of the gate agree: the divisor is not zero. -/
theorem silu_eq (g : EReal) : silu g = g * FloatOps.logistic (F := Ideal) (φ := .f32) g := by
  have he : ∀ x, 0 ≤ Ideal.exp x := by
    intro x
    induction x with
    | bot => exact le_refl _
    | top => exact le_top
    | coe r => exact EReal.coe_nonneg.mpr (Real.exp_pos r).le
  have hd : (1 : EReal) + Ideal.exp (-g) ≠ 0 := by
    have : (0 : EReal) < 1 + Ideal.exp (-g) := lt_of_lt_of_le zero_lt_one (le_add_of_nonneg_right (he _))
    exact this.ne'
  unfold silu
  show Ideal.div g (1 + Ideal.exp (0 - g)) = g * Ideal.div 1 (1 + Ideal.exp (-g))
  rw [zero_sub]
  unfold Ideal.div
  rw [if_neg hd, if_neg hd, one_mul]

end Cert.Proof.Spec
-- ==== Proof.KernelValue.lean ====
module

public import proofs.«01_k».proof.Proof.Fold
public import proofs.«01_k».proof.Proof.Spec
public import Idealize.ShloMosaic.Lib.Pointwise.Contract
public import Idealize.ShloMosaic.Lib.Pointwise.Reduce
public import Idealize.ShloMosaic.Lib.Claim
public import proofs.«01_k».proof.Proof.Gen.KernelIdeal.Value

@[expose] public section

set_option maxRecDepth 16384
set_option maxHeartbeats 2000000

noncomputable section

namespace Cert.Proof.KernelValue

open Cert.KernelIdeal Cert.KernelIdeal.Gen Idealize.ShloMosaic Idealize.ShloMosaic.TcCoe Idealize.SL.Sem Cert.Proof.Widen Cert.Proof.Exponent Cert.Proof.Block Cert.Proof.Outs Cert.Proof.Fold Cert.Proof.Spec Cert.KernelIdeal.Value

variable (m : (ℓ : Loc nD τ sig) → Buf (Elt Ideal) ℓ)

/-- The hidden product of a block, at an element. -/
theorem pay251_apply (a : Vec Ideal S1024x5120 .bf16) (wg wu : Vec Ideal S5120x256 .bf16) (y : S1024x256.Idx) :
    k0_pay251 a wg wu y = silu (∑ k : Fin 5120, a (ix2 (y 0) k) * wg (ix2 k (y 1))) * ∑ k : Fin 5120, a (ix2 (y 0) k) * wu (ix2 k (y 1)) := by
  unfold k0_pay251
  simp only [pointwise, zero_add]
  rfl

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val / 10 ∧ win0_2.index t (1 : Fin 2) = 0 := (by decide +kernel : ∀ t : Fin grid0.N, _)
theorem idx3 : ∀ t : Fin cfg0.N, win0_3.index t (0 : Fin 2) = t.val / 10 ∧ win0_3.index t (1 : Fin 2) = 0 := (by decide +kernel : ∀ t : Fin grid0.N, _)
theorem idx4 : ∀ t : Fin cfg0.N, win0_4.index t (0 : Fin 2) = 0 ∧ win0_4.index t (1 : Fin 2) = t.val % 10 := (by decide +kernel : ∀ t : Fin grid0.N, _)
theorem idx5 : ∀ t : Fin cfg0.N, win0_5.index t (0 : Fin 2) = 0 ∧ win0_5.index t (1 : Fin 2) = t.val % 10 := (by decide +kernel : ∀ t : Fin grid0.N, _)

/-- A block's row and column in the whole arrays. -/
def rowAt (t : Fin cfg0.N) (p : Fin 1024) : Fin 6144 := ⟨1024 * (t.val / 10) + p.val, by have h := t.isLt; have hN : cfg0.N = 60 := N_0; have := p.isLt; omega⟩
def colAt (t : Fin cfg0.N) (p : Fin 256) : Fin 2560 := ⟨256 * (t.val % 10) + p.val, by have := p.isLt; omega⟩

theorem blk2 (c : Dev nD) (t : Fin cfg0.N) (p : Fin 1024) (k : Fin 5120) (R : Fin 6144) (hR : R.val = 1024 * (t.val / 10) + p.val) :
    iblk m c 2 t (ix2 p k) = m ((c : Thread nD τ).loc main_arg0) (ix3 ⟨R.val / 3072, by have := R.isLt; omega⟩ ⟨R.val % 3072, Nat.mod_lt _ (by decide)⟩ k) := by
  blk_ext! [iblk, V, idx2 t]

theorem blk3 (c : Dev nD) (t : Fin cfg0.N) (p : Fin 1024) (k : Fin 40) (R : Fin 6144) (hR : R.val = 1024 * (t.val / 10) + p.val) :
    iblk m c 3 t (ix2 p k) = m ((c : Thread nD τ).loc main_arg1) (ix3 ⟨R.val / 3072, by have := R.isLt; omega⟩ ⟨R.val % 3072, Nat.mod_lt _ (by decide)⟩ k) := by
  blk_ext! [iblk, V, idx3 t]

theorem blk4 (c : Dev nD) (t : Fin cfg0.N) (k : Fin 5120) (p : Fin 256) :
    iblk m c 4 t (ix2 k p) = m ((c : Thread nD τ).loc main_arg2) (ix2 k (colAt t p)) := by
  blk_ext! [iblk, V, idx4 t, colAt]

theorem blk5 (c : Dev nD) (t : Fin cfg0.N) (k : Fin 5120) (p : Fin 256) :
    iblk m c 5 t (ix2 k p) = m ((c : Thread nD τ).loc main_arg4) (ix2 k (colAt t p)) := by
  blk_ext! [iblk, V, idx5 t, colAt]

theorem blk0 (c : Dev nD) (t : Fin cfg0.N) (y : S40x20.Idx) : iblk m c 0 t y = m ((c : Thread nD τ).loc main_arg3) y := by
  blk_ext! [iblk, V, idx0 t]

theorem blk1 (c : Dev nD) (t : Fin cfg0.N) (y : S40x20.Idx) : iblk m c 1 t y = m ((c : Thread nD τ).loc main_arg5) y := by
  blk_ext! [iblk, V, idx1 t]

/-- The widened arrays of a device, and their gated product. -/
abbrev X (c : Dev nD) : Fin 6144 → Fin 5120 → EReal := actv (m ((c : Thread nD τ).loc main_arg0)) (m ((c : Thread nD τ).loc main_arg1))
abbrev G (c : Dev nD) : Fin 5120 → Fin 2560 → EReal := wt (m ((c : Thread nD τ).loc main_arg2)) (m ((c : Thread nD τ).loc main_arg3))
abbrev U (c : Dev nD) : Fin 5120 → Fin 2560 → EReal := wt (m ((c : Thread nD τ).loc main_arg4)) (m ((c : Thread nD τ).loc main_arg5))
abbrev H (c : Dev nD) : Fin 6144 → Fin 2560 → EReal := hid (X m c) (G m c) (U m c)

theorem acts_apply (c : Dev nD) (t : Fin cfg0.N) (p : Fin 1024) (k : Fin 5120) : acts m c t (ix2 p k) = X m c (rowAt t p) k := by
  have hr : (rowAt t p).val = 1024 * ((start t).val / 10) + p.val := by
    show 1024 * (t.val / 10) + p.val = 1024 * (10 * (t.val / 10) / 10) + p.val; omega
  have hg : groupAt (ix2 p k) = ix2 p ⟨k.val / 128, by have := k.isLt; omega⟩ := by
    funext a; match a with | ⟨0, _⟩ => rfl | ⟨1, _⟩ => rfl
  exact congrArg₂ (fun a b : EReal => a * b) (blk2 m c (start t) p k (rowAt t p) hr)
    ((congrArg (iblk m c 3 (start t)) hg).trans (blk3 m c (start t) p _ (rowAt t p) hr))

theorem scaleAt_eq (t : Fin cfg0.N) (k : Fin 5120) (p : Fin 256) :
    scaleAt (grid0.coords t) (ix2 k p) = ix2 ⟨k.val / 128, by have := k.isLt; omega⟩ ⟨(colAt t p).val / 128, by have := (colAt t p).isLt; omega⟩ := by
  funext a
  match a with
  | ⟨0, _⟩ => rfl
  | ⟨1, _⟩ => exact Fin.ext (by
      have h := coord_one t
      have hp := p.isLt
      show 2 * (grid0.coords t 1).val + p.val / 128 = (256 * (t.val % 10) + p.val) / 128
      rw [h]; omega)

theorem gate_apply (c : Dev nD) (t : Fin cfg0.N) (k : Fin 5120) (p : Fin 256) :
    wide (iblk m c 0 t) (iblk m c 4 t) (grid0.coords t) (ix2 k p) = G m c k (colAt t p) := by
  exact congrArg₂ (fun a b : EReal => a * b) (blk4 m c t k p) ((congrArg (iblk m c 0 t) (scaleAt_eq t k p)).trans (blk0 m c t _))

theorem up_apply (c : Dev nD) (t : Fin cfg0.N) (k : Fin 5120) (p : Fin 256) :
    wide (iblk m c 1 t) (iblk m c 5 t) (grid0.coords t) (ix2 k p) = U m c k (colAt t p) := by
  exact congrArg₂ (fun a b : EReal => a * b) (blk5 m c t k p) ((congrArg (iblk m c 1 t) (scaleAt_eq t k p)).trans (blk1 m c t _))

/-- A block of the hidden product is its part of the whole gated product. -/
theorem block_apply (c : Dev nD) (t : Fin cfg0.N) (y : S1024x256.Idx) : block m c t y = H m c (rowAt t (y 0)) (colAt t (y 1)) := by
  unfold block Outs.hidden
  rw [pay251_apply]
  have hg : ∀ k : Fin 5120, acts m c t (ix2 (y 0) k) * wide (iblk m c 0 t) (iblk m c 4 t) (grid0.coords t) (ix2 k (y 1))
      = X m c (rowAt t (y 0)) k * G m c k (colAt t (y 1)) := fun k => congrArg₂ (· * ·) (acts_apply m c t (y 0) k) (gate_apply m c t k (y 1))
  have hu : ∀ k : Fin 5120, acts m c t (ix2 (y 0) k) * wide (iblk m c 1 t) (iblk m c 5 t) (grid0.coords t) (ix2 k (y 1))
      = X m c (rowAt t (y 0)) k * U m c k (colAt t (y 1)) := fun k => congrArg₂ (· * ·) (acts_apply m c t (y 0) k) (up_apply m c t k (y 1))
  rw [Finset.sum_congr rfl fun k _ => hg k, Finset.sum_congr rfl fun k _ => hu k]
  rfl

/-- A block's group of columns is a group of the whole gated product. -/
theorem group_block (c : Dev nD) (t : Fin cfg0.N) (p : Fin 1024) (q : Fin 2) (R : Fin 6144) (Q : Fin 20)
    (hR : R.val = 1024 * (t.val / 10) + p.val) (hQ : Q.val = 2 * (t.val % 10) + q.val) : group (block m c t) p q = grp (H m c) R Q := by
  funext k
  unfold group grp
  rw [block_apply]
  exact congrArg₂ (H m c) (Fin.ext hR.symm) (Fin.ext (by
    show 256 * (t.val % 10) + (128 * q.val + k.val) = 128 * Q.val + k.val
    omega))

/-- The codes' array after the run. -/
theorem codes_apply (c : Dev nD) (i : S6144x2560.Idx) :
    G6 m c i = code (H m c (i 0) (i 1)) (ratio (grp (H m c) (i 0) (grpOf (i 1)))) := by
  have h0 : (i 0).val < 6144 := (i 0).isLt
  have h1 : (i 1).val < 2560 := (i 1).isLt
  have hN : cfg0.N = 60 := N_0
  have ht : pt6Of i < cfg0.N := by show 10 * ((i 0).val / 1024 - 0) + 1 * ((i 1).val / 256 - 0) < cfg0.N; omega
  obtain ⟨t, htv⟩ : ∃ t : Fin cfg0.N, t.val = pt6Of i := ⟨⟨_, ht⟩, rfl⟩
  have e := (fold m c t.val t rfl).1
  rw [outsAt0_sweep, fold0_congr m c _ _ _ (by omega) htv] at e
  unfold G6
  rw [dif_pos ht, e]
  have htv : t.val = 10 * ((i 0).val / 1024 - 0) + 1 * ((i 1).val / 256 - 0) := htv
  unfold codes
  have hr : rowAt t (loc6Of i 0) = i 0 := Fin.ext (by show 1024 * (t.val / 10) + (i 0).val % 1024 = (i 0).val; omega)
  have hc : colAt t (loc6Of i 1) = i 1 := Fin.ext (by show 256 * (t.val % 10) + (i 1).val % 256 = (i 1).val; omega)
  exact congrArg₂ code ((block_apply m c t (loc6Of i)).trans (congrArg₂ (H m c) hr hc)) (congrArg ratio (group_block m c t _ _ (i 0) (grpOf (i 1))
    (by show (i 0).val = 1024 * (t.val / 10) + (i 0).val % 1024; omega)
    (by show (i 1).val / 128 = 2 * (t.val % 10) + ((i 1).val % 256) / 128; omega)))

/-- The scales' array after the run. -/
theorem scales_apply (c : Dev nD) (i : S6144x20.Idx) : G7 m c i = scale (ratio (grp (H m c) (i 0) (i 1))) := by
  have h0 : (i 0).val < 6144 := (i 0).isLt
  have h1 : (i 1).val < 20 := (i 1).isLt
  have hN : cfg0.N = 60 := N_0
  have ht : pt7Of i < cfg0.N := by show 10 * (1 * ((i 0).val / 1024 - 0) + 1 * ((i 1).val / 20 - 0)) + 9 < cfg0.N; omega
  obtain ⟨t, htv⟩ : ∃ t : Fin cfg0.N, t.val = pt7Of i := ⟨⟨_, ht⟩, rfl⟩
  have htv' : t.val = 10 * (1 * ((i 0).val / 1024 - 0) + 1 * ((i 1).val / 20 - 0)) + 9 := htv
  have e := (fold m c t.val t rfl).2.1 (loc7Of i) (by show (i 1).val % 20 < 2 * (t.val % 10 + 1); omega)
  rw [outsAt0_sweep, fold0_congr m c _ _ _ (by omega) htv] at e
  unfold G7
  rw [dif_pos ht, e]
  unfold laneScale
  exact congrArg (fun v => scale (ratio v)) (group_block m c _ _ _ (i 0) (i 1)
    (by show (i 0).val = 1024 * ((10 * (t.val / 10) + (i 1).val % 20 / 2) / 10) + (i 0).val % 1024; omega)
    (by show (i 1).val = 2 * ((10 * (t.val / 10) + (i 1).val % 20 / 2) % 10) + (i 1).val % 20 % 2; omega))

end Cert.Proof.KernelValue
-- ==== Proof.Hidden.lean ====
module

public import proofs.«01_k».proof.Proof.Gen.ReferenceIdeal.Value
public import proofs.«01_k».proof.Proof.Spec
public import Idealize.ShloMosaic.Lib.Pointwise.Contract
public import Idealize.ShloMosaic.Lib.Pointwise.Reduce
public import Idealize.ShloMosaic.Lib.Claim
public import proofs.«01_k».proof.Proof.Gen.ReferenceIdeal.Value

@[expose] public section

set_option maxRecDepth 16384
set_option maxHeartbeats 400000

noncomputable section

namespace Cert.Proof.ReferenceValue

open Cert.ReferenceIdeal Cert.ReferenceIdeal.Gen Idealize.ShloMosaic Idealize.ShloMosaic.TcCoe Idealize.SL.Sem Cert.Proof.Exponent Cert.Proof.Block Cert.Proof.Spec Cert.ReferenceIdeal.Value

variable (x : Vec Ideal S2x3072x5120 .fp8e4m3) (xs : Vec Ideal S2x3072x40 .f32) (wg : Vec Ideal S5120x2560 .fp8e4m3) (wgs : Vec Ideal S40x20 .f32)
  (wu : Vec Ideal S5120x2560 .fp8e4m3) (wus : Vec Ideal S40x20 .f32)

/-- The widened activations. -/
def wideX : FVec Ideal S2x3072x5120 .bf16 :=
  shapeCast S2x3072x5120 (mulf (shapeCast S2x3072x40x128 (extf .bf16 x bitsLt_fp8e4m3_bf16) shapeCasts_S2x3072x5120_S2x3072x40x128)
    (broadcastTo S2x3072x40x128 (shapeCast S2x3072x40x1 (truncf .bf16 xs bitsLt_bf16_f32) shapeCasts_S2x3072x40_S2x3072x40x1)
      broadcasts_S2x3072x40x1_S2x3072x40x128)) shapeCasts_S2x3072x40x128_S2x3072x5120

/-- The widened weights. -/
def wideW : FVec Ideal S5120x2560 .bf16 :=
  shapeCast S5120x2560 (mulf (shapeCast S40x128x20x128 (extf .bf16 wg bitsLt_fp8e4m3_bf16) shapeCasts_S5120x2560_S40x128x20x128)
    (broadcastTo S40x128x20x128 (shapeCast S40x1x20x1 (truncf .bf16 wgs bitsLt_bf16_f32) shapeCasts_S40x20_S40x1x20x1)
      broadcasts_S40x1x20x1_S40x128x20x128)) shapeCasts_S40x128x20x128_S5120x2560

theorem wideX_apply (b : Fin 2) (s : Fin 3072) (k : Fin 5120) :
    wideX x xs (ix3 b s k) = x (ix3 b s k) * xs (ix3 b s ⟨k.val / 128, by have := k.isLt; omega⟩) := by
  unfold wideX
  simp only [pointwise]
  rfl

theorem wideW_apply (k : Fin 5120) (C : Fin 2560) : wideW wg wgs (ix2 k C) = wt wg wgs k C := by
  unfold wideW
  simp only [pointwise]
  rfl

/-- A group's greatest magnitude. -/
theorem amax_apply (h : FVec Ideal S2x3072x20x128 .f32) (y : S2x3072x20.Idx) :
    multiReduction .maximumf [3] S2x3072x20 (absf h) 0xFF800000#32 reduces_S2x3072x20x128_S2x3072x20 (.inl rfl) rfl y
      = amax (fun k => h (ix4 (y 0) (y 1) (y 2) k)) :=
  (multiReduction_maximumf_eq_fold (absf h) 0xFF800000#32 reduces_S2x3072x20x128_S2x3072x20 (.inl rfl) rfl y).trans
    (Shape.Reduces.fold_fiber_r4_a3 reduces_S2x3072x20x128_S2x3072x20 y _ _ _)

/-- The gated product over the two matrix products' operands, cut into groups. -/
def gated (a : FVec Ideal S2x3072x5120 .bf16) (g u : FVec Ideal S5120x2560 .bf16) : FVec Ideal S2x3072x20x128 .f32 :=
  shapeCast S2x3072x20x128
    (mulf (mulf (matmul dot_S2x3072x5120_S5120x2560_S2x3072x2560_2_0_01_1_n_n none a g (constant S2x3072x2560 .f32 0x00000000#32))
        (logistic (matmul dot_S2x3072x5120_S5120x2560_S2x3072x2560_2_0_01_1_n_n none a g (constant S2x3072x2560 .f32 0x00000000#32))))
      (matmul dot_S2x3072x5120_S5120x2560_S2x3072x2560_2_0_01_1_n_n none a u (constant S2x3072x2560 .f32 0x00000000#32)))
    shapeCasts_S2x3072x2560_S2x3072x20x128

theorem product_apply (a : FVec Ideal S2x3072x5120 .bf16) (g : FVec Ideal S5120x2560 .bf16) (y : S2x3072x2560.Idx) :
    matmul dot_S2x3072x5120_S5120x2560_S2x3072x2560_2_0_01_1_n_n none a g (constant S2x3072x2560 .f32 0x00000000#32) y
      = ∑ k : Fin 5120, a (ix3 (y 0) (y 1) k) * g (ix2 k (y 2)) := by
  simp only [pointwise, zero_add]

/-- A column's place among the 2560, from its group and its place there. -/
def colOf (q : Fin 20) (k : Fin 128) : Fin 2560 := ⟨128 * q.val + k.val, by have := q.isLt; have := k.isLt; omega⟩

theorem split_apply (h : FVec Ideal S2x3072x2560 .f32) (b : Fin 2) (s : Fin 3072) (q : Fin 20) (k : Fin 128) :
    shapeCast S2x3072x20x128 h shapeCasts_S2x3072x2560_S2x3072x20x128 (ix4 b s q k) = h (ix3 b s (colOf q k)) := by
  simp only [pointwise]
  exact congrArg (fun C => h (ix3 b s C)) (Fin.ext (by show q.val * 128 + k.val = 128 * q.val + k.val; omega))

theorem gate_mul (h k : FVec Ideal S2x3072x2560 .f32) (y : S2x3072x2560.Idx) : mulf (mulf h (logistic h)) k y = silu (h y) * k y :=
  congrArg (· * k y) (silu_eq (h y)).symm

theorem gated_apply (a : FVec Ideal S2x3072x5120 .bf16) (g u : FVec Ideal S5120x2560 .bf16) (b : Fin 2) (s : Fin 3072) (q : Fin 20) (k : Fin 128) :
    gated a g u (ix4 b s q k)
      = silu (∑ j : Fin 5120, a (ix3 b s j) * g (ix2 j (colOf q k))) * ∑ j : Fin 5120, a (ix3 b s j) * u (ix2 j (colOf q k)) :=
  (split_apply _ b s q k).trans ((gate_mul _ _ _).trans
    (congrArg₂ (fun v w : EReal => silu v * w) (product_apply a g (ix3 b s (colOf q k))) (product_apply a u (ix3 b s (colOf q k)))))

theorem pay4_eq : k0_pay4 x xs wg wgs wu wus = gated (wideX x xs) (wideW wg wgs) (wideW wu wus) := rfl

/-- The row of a token. -/
def rowOf (b : Fin 2) (s : Fin 3072) : Fin 6144 := ⟨3072 * b.val + s.val, by have := b.isLt; have := s.isLt; omega⟩

theorem actv_rowOf (b : Fin 2) (s : Fin 3072) (k : Fin 5120) : actv x xs (rowOf b s) k = wideX x xs (ix3 b s k) := by
  have hs := s.isLt
  have hb : (⟨(rowOf b s).val / 3072, by have := (rowOf b s).isLt; omega⟩ : Fin 2) = b := Fin.ext (by
    show (3072 * b.val + s.val) / 3072 = b.val; omega)
  have hs : (⟨(rowOf b s).val % 3072, Nat.mod_lt _ (by decide)⟩ : Fin 3072) = s := Fin.ext (by
    show (3072 * b.val + s.val) % 3072 = s.val; omega)
  rw [wideX_apply]
  unfold actv
  rw [hb, hs]

abbrev H : Fin 6144 → Fin 2560 → EReal := hid (actv x xs) (wt wg wgs) (wt wu wus)

theorem pay4_apply (b : Fin 2) (s : Fin 3072) (q : Fin 20) (k : Fin 128) :
    k0_pay4 x xs wg wgs wu wus (ix4 b s q k) = grp (H x xs wg wgs wu wus) (rowOf b s) q k := by
  rw [pay4_eq, gated_apply]
  refine congrArg₂ (fun v w : EReal => silu v * w) (Finset.sum_congr rfl fun j _ => ?_) (Finset.sum_congr rfl fun j _ => ?_)
  · exact congrArg₂ (fun v w : EReal => v * w) (actv_rowOf x xs b s j).symm (wideW_apply wg wgs j (colOf q k))
  · exact congrArg₂ (fun v w : EReal => v * w) (actv_rowOf x xs b s j).symm (wideW_apply wu wus j (colOf q k))

end Cert.Proof.ReferenceValue
-- ==== Proof.ReferenceValue.lean ====
module

public import proofs.«01_k».proof.Proof.Hidden
public import Idealize.ShloMosaic.Lib.Pointwise.Contract
public import Idealize.ShloMosaic.Lib.Pointwise.Reduce
public import Idealize.ShloMosaic.Lib.Claim
public import proofs.«01_k».proof.Proof.Gen.ReferenceIdeal.Value

@[expose] public section

set_option maxRecDepth 16384
set_option maxHeartbeats 400000

noncomputable section

namespace Cert.Proof.ReferenceValue

open Cert.ReferenceIdeal Cert.ReferenceIdeal.Gen Idealize.ShloMosaic Idealize.ShloMosaic.TcCoe Idealize.SL.Sem Cert.Proof.Exponent Cert.Proof.Block Cert.Proof.Spec Cert.ReferenceIdeal.Value

variable (x : Vec Ideal S2x3072x5120 .fp8e4m3) (xs : Vec Ideal S2x3072x40 .f32) (wg : Vec Ideal S5120x2560 .fp8e4m3) (wgs : Vec Ideal S40x20 .f32)
  (wu : Vec Ideal S5120x2560 .fp8e4m3) (wus : Vec Ideal S40x20 .f32)

theorem scaled_apply (a : FVec Ideal S2x3072x20 .f32) (w : BitVec 32) (y : S2x3072x20.Idx) :
    mulf a (broadcast S2x3072x20 (Scalar.ofBits (F := Ideal) .f32 w)) y = (a y : EReal) * FloatOps.ofBits (F := Ideal) .f32 w := rfl

/-- A group's ratio. -/
theorem ratio_apply (h : FVec Ideal S2x3072x20x128 .f32) (b : Fin 2) (s : Fin 3072) (q : Fin 20) :
    mulf (multiReduction .maximumf [3] S2x3072x20 (absf h) 0xFF800000#32 reduces_S2x3072x20x128_S2x3072x20 (.inl rfl) rfl)
      (broadcast S2x3072x20 (Scalar.ofBits .f32 0x3B124925#32)) (ix3 b s q) = ratio (fun k => h (ix4 b s q k)) := by
  rw [scaled_apply, amax_apply]
  rfl

theorem pay5_eq : k0_pay5 x xs wg wgs wu wus
    = mulf (multiReduction .maximumf [3] S2x3072x20 (absf (k0_pay4 x xs wg wgs wu wus)) 0xFF800000#32 reduces_S2x3072x20x128_S2x3072x20 (.inl rfl) rfl)
      (broadcast S2x3072x20 (Scalar.ofBits .f32 0x3B124925#32)) := by
  unfold k0_pay5
  rfl

theorem pay5_apply (b : Fin 2) (s : Fin 3072) (q : Fin 20) :
    k0_pay5 x xs wg wgs wu wus (ix3 b s q) = ratio (grp (H x xs wg wgs wu wus) (rowOf b s) q) := by
  rw [pay5_eq]
  exact (ratio_apply _ b s q).trans (congrArg ratio (funext fun k => pay4_apply x xs wg wgs wu wus b s q k))

/-- The exponent, from the ratio and the floor of its base-2 logarithm. -/
theorem pay1_apply (r e : FVec Ideal S2x3072x20 .f32) (y : S2x3072x20.Idx)
    (he : e y = FloatOps.floor (FloatOps.mulf (FloatOps.log (r y)) (((Real.log 2)⁻¹ : ℝ) : EReal))) : k0_pay1 r e y = expo (r y) :=
  congrArg (fun z : Ideal .f32 => Scalar.select (IntOp.ori (FloatOps.cmpf .olt (r y) (FloatOps.ofBits .f32 0x00800000#32))
    (FloatOps.cmpf .oge (r y) (FloatOps.ofBits .f32 0x7B800000#32))) (FloatOps.ofBits .f32 0x00000000#32) (FloatOps.addf z (FloatOps.ofBits .f32 0x3F800000#32))) he

theorem log2_apply (r : FVec Ideal S2x3072x20 .f32) (c : Ideal .f32) (y : S2x3072x20.Idx) :
    floor (mulf (log r) (broadcast S2x3072x20 c)) y = FloatOps.floor (FloatOps.mulf (FloatOps.log (r y)) c) := rfl

theorem pay6_eq : k0_pay6 x xs wg wgs wu wus
    = floor (mulf (log (k0_pay5 x xs wg wgs wu wus)) (broadcast S2x3072x20 (Named.named (F := Ideal) κ "inv_ln2" 0x3FB8AA3B#32))) := by
  unfold k0_pay6
  rfl

theorem pay6_apply (y : S2x3072x20.Idx) : k0_pay6 x xs wg wgs wu wus y
    = FloatOps.floor (FloatOps.mulf (FloatOps.log (k0_pay5 x xs wg wgs wu wus y)) (((Real.log 2)⁻¹ : ℝ) : EReal)) := by
  rw [pay6_eq, log2_apply]
  exact congrArg (fun c : Ideal .f32 => FloatOps.floor (FloatOps.mulf (FloatOps.log (k0_pay5 x xs wg wgs wu wus y)) c))
    (IdealRules.named_const.ideal_named_scalar _ _ _ _ rfl)

theorem expo_apply (b : Fin 2) (s : Fin 3072) (q : Fin 20) :
    k0_pay1 (k0_pay5 x xs wg wgs wu wus) (k0_pay6 x xs wg wgs wu wus) (ix3 b s q)
      = expo (ratio (grp (H x xs wg wgs wu wus) (rowOf b s) q)) :=
  (pay1_apply _ _ _ (pay6_apply x xs wg wgs wu wus _)).trans (congrArg expo (pay5_apply x xs wg wgs wu wus b s q))

/-- The token of a row. -/
def seqOf (R : Fin 6144) : Fin 2 := ⟨R.val / 3072, by have := R.isLt; omega⟩
def tokOf (R : Fin 6144) : Fin 3072 := ⟨R.val % 3072, Nat.mod_lt _ (by decide)⟩

theorem rowOf_tok (R : Fin 6144) : rowOf (seqOf R) (tokOf R) = R := Fin.ext (by
  show 3072 * (R.val / 3072) + R.val % 3072 = R.val; omega)

/-- The place of a column in its group. -/
def laneOf (C : Fin 2560) : Fin 128 := ⟨C.val % 128, Nat.mod_lt _ (by decide)⟩

theorem grp_lane (h : Fin 6144 → Fin 2560 → EReal) (R : Fin 6144) (C : Fin 2560) : grp h R (grpOf C) (laneOf C) = h R C :=
  congrArg (h R) (Fin.ext (by show 128 * (C.val / 128) + C.val % 128 = C.val; omega))

theorem flat_apply (f : FVec Ideal S2x3072x20 .f32) (R : Fin 6144) (q : Fin 20) :
    shapeCast S6144x20 (exp2 f) shapeCasts_S2x3072x20_S6144x20 (ix2 R q) = FloatOps.exp2 (f (ix3 (seqOf R) (tokOf R) q)) := by
  simp only [pointwise]
  rfl

theorem pay3_eq (r e : FVec Ideal S2x3072x20 .f32) : k0_pay3 r e = shapeCast S6144x20 (exp2 (k0_pay1 r e)) shapeCasts_S2x3072x20_S6144x20 := by
  unfold k0_pay3
  rfl

theorem scale_apply (R : Fin 6144) (q : Fin 20) :
    k0_pay3 (k0_pay5 x xs wg wgs wu wus) (k0_pay6 x xs wg wgs wu wus) (ix2 R q) = scale (ratio (grp (H x xs wg wgs wu wus) R q)) := by
  rw [pay3_eq, flat_apply, expo_apply, rowOf_tok, (scale_recip _ (ratio_nonneg _)).1]

/-- The clip of a product with a group's factor, at an element. -/
theorem clip_apply (h : FVec Ideal S2x3072x20x128 .f32) (f : FVec Ideal S2x3072x20 .f32) (R : Fin 6144) (C : Fin 2560) :
    shapeCast S6144x2560 (shapeCast S2x3072x2560 (truncf .fp8e4m3 (minimumf (broadcast S2x3072x20x128 (Scalar.ofBits (F := Ideal) .f32 0x43E00000#32))
      (maximumf (broadcast S2x3072x20x128 (Scalar.ofBits (F := Ideal) .f32 0xC3E00000#32)) (mulf h
        (broadcastTo S2x3072x20x128 (shapeCast S2x3072x20x1 f shapeCasts_S2x3072x20_S2x3072x20x1) broadcasts_S2x3072x20x1_S2x3072x20x128)))) bitsLt_fp8e4m3_f32)
        shapeCasts_S2x3072x20x128_S2x3072x2560) shapeCasts_S2x3072x2560_S6144x2560 (ix2 R C)
      = min (FloatOps.ofBits (F := Ideal) .f32 0x43E00000#32) (max (FloatOps.ofBits (F := Ideal) .f32 0xC3E00000#32)
          (h (ix4 (seqOf R) (tokOf R) (grpOf C) (laneOf C)) * f (ix3 (seqOf R) (tokOf R) (grpOf C)))) := by
  simp only [pointwise]
  rfl

theorem pay2_eq (h : FVec Ideal S2x3072x20x128 .f32) (r e : FVec Ideal S2x3072x20 .f32) : k0_pay2 h r e
    = shapeCast S6144x2560 (shapeCast S2x3072x2560 (truncf .fp8e4m3 (minimumf (broadcast S2x3072x20x128 (Scalar.ofBits (F := Ideal) .f32 0x43E00000#32))
      (maximumf (broadcast S2x3072x20x128 (Scalar.ofBits (F := Ideal) .f32 0xC3E00000#32)) (mulf h
        (broadcastTo S2x3072x20x128 (shapeCast S2x3072x20x1 (exp2 (subf (broadcast S2x3072x20 (Scalar.ofBits (F := Ideal) .f32 0x00000000#32)) (k0_pay1 r e)))
          shapeCasts_S2x3072x20_S2x3072x20x1) broadcasts_S2x3072x20x1_S2x3072x20x128)))) bitsLt_fp8e4m3_f32)
        shapeCasts_S2x3072x20x128_S2x3072x2560) shapeCasts_S2x3072x2560_S6144x2560 := by
  unfold k0_pay2
  rfl

theorem inverse_apply (e : FVec Ideal S2x3072x20 .f32) (y : S2x3072x20.Idx) :
    exp2 (subf (broadcast S2x3072x20 (Scalar.ofBits (F := Ideal) .f32 0x00000000#32)) e) y
      = FloatOps.exp2 (FloatOps.subf (FloatOps.ofBits .f32 0x00000000#32) (e y)) := rfl

theorem code_apply (R : Fin 6144) (C : Fin 2560) :
    k0_pay2 (k0_pay4 x xs wg wgs wu wus) (k0_pay5 x xs wg wgs wu wus) (k0_pay6 x xs wg wgs wu wus) (ix2 R C)
      = code (H x xs wg wgs wu wus R C) (ratio (grp (H x xs wg wgs wu wus) R (grpOf C))) := by
  rw [pay2_eq, clip_apply, inverse_apply, expo_apply, pay4_apply, rowOf_tok, grp_lane, ← (scale_recip _ (ratio_nonneg _)).2]
  rfl

/-- The loads of the whole argument arrays read the arrays. -/
theorem pay7_eq : k0_pay7 x xs wg wgs wu wus = k0_pay5 x xs wg wgs wu wus := by
  unfold k0_pay7
  rw [View.ld_unit_zero (S := S2x3072x5120) hz0 _ x, View.ld_unit_zero (S := S2x3072x40) hz1 _ xs, View.ld_unit_zero (S := S5120x2560) hz2 _ wg,
    View.ld_unit_zero (S := S40x20) hz3 _ wgs, View.ld_unit_zero (S := S5120x2560) hz4 _ wu, View.ld_unit_zero (S := S40x20) hz5 _ wus]

theorem pay8_eq : k0_pay8 x xs wg wgs wu wus = k0_pay6 x xs wg wgs wu wus := by
  unfold k0_pay8
  rw [View.ld_unit_zero (S := S2x3072x5120) hz0 _ x, View.ld_unit_zero (S := S2x3072x40) hz1 _ xs, View.ld_unit_zero (S := S5120x2560) hz2 _ wg,
    View.ld_unit_zero (S := S40x20) hz3 _ wgs, View.ld_unit_zero (S := S5120x2560) hz4 _ wu, View.ld_unit_zero (S := S40x20) hz5 _ wus]

/-- The codes' array. -/
theorem codes_apply (R : Fin 6144) (C : Fin 2560) :
    G6 x xs wg wgs wu wus (ix2 R C) = code (H x xs wg wgs wu wus R C) (ratio (grp (H x xs wg wgs wu wus) R (grpOf C))) := by
  unfold G6
  rw [pay7_eq, pay8_eq, code_apply]

/-- The scales' array. -/
theorem scales_apply (R : Fin 6144) (q : Fin 20) :
    G7 x xs wg wgs wu wus (ix2 R q) = scale (ratio (grp (H x xs wg wgs wu wus) R q)) := by
  unfold G7
  rw [pay7_eq, pay8_eq, scale_apply]

end Cert.Proof.ReferenceValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The two programs' arrays of codes are equal, index by index. -/
theorem codes_eq (m : (ℓ : Loc Cert.KernelIdeal.nD Cert.KernelIdeal.τ Cert.KernelIdeal.sig) → Buf (Elt Ideal) ℓ) (c : Dev Cert.KernelIdeal.nD) :
    Cert.ReferenceIdeal.Value.G6 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = Cert.KernelIdeal.Value.G6 m c := by
  funext i
  have hi : i = ix2 (i 0) (i 1) := by funext a; match a with | ⟨0, _⟩ => rfl | ⟨1, _⟩ => rfl
  exact (congrArg _ hi).trans ((Cert.Proof.ReferenceValue.codes_apply _ _ _ _ _ _ (i 0) (i 1)).trans (Cert.Proof.KernelValue.codes_apply m c i).symm)

/-- The two programs' arrays of scales are equal, index by index. -/
theorem scales_eq (m : (ℓ : Loc Cert.KernelIdeal.nD Cert.KernelIdeal.τ Cert.KernelIdeal.sig) → Buf (Elt Ideal) ℓ) (c : Dev Cert.KernelIdeal.nD) :
    Cert.ReferenceIdeal.Value.G7 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = Cert.KernelIdeal.Value.G7 m c := by
  funext i
  have hi : i = ix2 (i 0) (i 1) := by funext a; match a with | ⟨0, _⟩ => rfl | ⟨1, _⟩ => rfl
  exact (congrArg _ hi).trans ((Cert.Proof.ReferenceValue.scales_apply _ _ _ _ _ _ (i 0) (i 1)).trans (Cert.Proof.KernelValue.scales_apply m c i).symm)

/-- The kernel and the reference end with equal codes and equal scales. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Value.G6 m c, fun c => Cert.KernelIdeal.Value.G7 m c, Cert.KernelIdeal.Value.run m g, ?_⟩
  refine (θ_run _ _ _).mono (fun r hr c => ?_) (Cert.ReferenceIdeal.Value.run m' g')
  obtain ⟨h6, h7, hk⟩ := hr c
  obtain ⟨e0, e1, e2, e3, e4, e5⟩ := h c
  refine ⟨h6.trans ?_, h7.trans ?_, hk⟩
  · rw [e0, e1, e2, e3, e4, e5]
    exact codes_eq m c
  · rw [e0, e1, e2, e3, e4, e5]
    exact scales_eq m c

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, algebraic⟩

end Cert.Proof

end
